-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_w1 [hPre_finite_w1 : Cert.Pre_finite_w1.Facts] (m : (ℓ : Loc Cert.KernelIdeal.nD Cert.KernelIdeal.τ Cert.KernelIdeal.sig) → Buf (Elt Ideal) ℓ) : Prop :=
  ∀ c : Dev Cert.KernelIdeal.nD,
    (Cert.Pre_finite_w1.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_w1 [hPre_finite_w1 : Cert.Pre_finite_w1.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_w1.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ r.2.sem = fun _ => 0)

def quiescent_KernelIdeal_pre_finite_w1 [hKernelIdeal : Cert.KernelIdeal.Facts] [hPre_finite_w1 : Cert.Pre_finite_w1.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_w1 m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))
      ∧ r.2.sem = fun _ => 0)

def quiescent_ReferenceIdeal_pre_finite_w1 [hReferenceIdeal : Cert.ReferenceIdeal.Facts] [hPre_finite_w1 : Cert.Pre_finite_w1.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_w1 m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))
      ∧ r.2.sem = fun _ => 0)

def preserves_Kernel_KernelIdeal : Prop :=
  IdealRules.named_const.Statement Cert.KernelIdeal.κ "scale" .f32 0x360637C6#32 ((2 / 999999 : ℝ) : EReal)

def algebraic_KernelIdeal_ReferenceIdeal_pre_finite_w1 [hKernelIdeal : Cert.KernelIdeal.Facts] [hReferenceIdeal : Cert.ReferenceIdeal.Facts] [hPre_finite_w1 : Cert.Pre_finite_w1.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_w1 m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_w1 : Cert.Pre_finite_w1.Facts),
    quiescent_Kernel (hKernel := hKernel)
    ∧ quiescent_KernelIdeal (hKernelIdeal := hKernelIdeal)
    ∧ quiescent_KernelIdeal_pre_finite_w1 (hKernelIdeal := hKernelIdeal) (hPre_finite_w1 := hPre_finite_w1)
    ∧ quiescent_ReferenceIdeal (hReferenceIdeal := hReferenceIdeal)
    ∧ quiescent_ReferenceIdeal_pre_finite_w1 (hReferenceIdeal := hReferenceIdeal) (hPre_finite_w1 := hPre_finite_w1)
    ∧ preserves_Kernel_KernelIdeal
    ∧ algebraic_KernelIdeal_ReferenceIdeal_pre_finite_w1 (hKernelIdeal := hKernelIdeal) (hReferenceIdeal := hReferenceIdeal) (hPre_finite_w1 := hPre_finite_w1)
-- ==== Pre_finite_w1.lean ====
abbrev S4096x13 : Shape := ⟨2, ![4096, 13]⟩
abbrev S26x4096 : Shape := ⟨2, ![26, 4096]⟩
abbrev S26x128 : Shape := ⟨2, ![26, 128]⟩
abbrev S26x128x256 : Shape := ⟨3, ![26, 128, 256]⟩
abbrev S26x256 : Shape := ⟨2, ![26, 256]⟩
abbrev S26x256x64 : Shape := ⟨3, ![26, 256, 64]⟩
abbrev S26x64 : Shape := ⟨2, ![26, 64]⟩
abbrev S13x512 : Shape := ⟨2, ![13, 512]⟩
abbrev S512 : Shape := ⟨1, ![512]⟩
abbrev S512x256 : Shape := ⟨2, ![512, 256]⟩
abbrev S256 : Shape := ⟨1, ![256]⟩
abbrev S256x64 : Shape := ⟨2, ![256, 64]⟩
abbrev S64 : Shape := ⟨1, ![64]⟩
abbrev S1728x512 : Shape := ⟨2, ![1728, 512]⟩
abbrev S256x1 : Shape := ⟨2, ![256, 1]⟩
abbrev S1 : Shape := ⟨1, ![1]⟩
abbrev S_ : Shape := ⟨0, ![]⟩

class Facts : Prop where
  bcast_S_S26x128x256 : S_.BroadcastsInDim S26x128x256 (![] : Fin 0 → Fin S26x128x256.rank)

variable [Facts]

def fn {F : FTy → Type} [FloatOps F] (main_arg0 : FVec F S4096x13 .f32) (main_arg1 : IVec S26x4096 32) (main_arg2 : IVec S26x128 32) (main_arg3 : IVec S26x128 32) (main_arg4 : FVec F S26x128x256 .f32) (main_arg5 : FVec F S26x256 .f32) (main_arg6 : FVec F S26x256x64 .f32) (main_arg7 : FVec F S26x64 .f32) (main_arg8 : FVec F S13x512 .f32) (main_arg9 : FVec F S512 .f32) (main_arg10 : FVec F S512x256 .f32) (main_arg11 : FVec F S256 .f32) (main_arg12 : FVec F S256x64 .f32) (main_arg13 : FVec F S64 .f32) (main_arg14 : FVec F S1728x512 .f32) (main_arg15 : FVec F S512 .f32) (main_arg16 : FVec F S512x256 .f32) (main_arg17 : FVec F S256 .f32) (main_arg18 : FVec F S256x1 .f32) (main_arg19 : FVec F S1 .f32) : IVec S26x128x256 1 :=
  let main_cst : FVec F S_ .f32 := constant S_ .f32 0xFF800000#32
  let main_v0 : FVec F S26x128x256 .f32 := broadcastInDim S26x128x256 ![] bcast_S_S26x128x256 main_cst
  let main_v1 : IVec S26x128x256 1 := cmpf .ogt main_arg4 main_v0
  let main_cst_0 : FVec F S_ .f32 := constant S_ .f32 0x7F800000#32
  let main_v2 : FVec F S26x128x256 .f32 := broadcastInDim S26x128x256 ![] bcast_S_S26x128x256 main_cst_0
  let main_v3 : IVec S26x128x256 1 := cmpf .olt main_arg4 main_v2
  let main_v4 : IVec S26x128x256 1 := andi main_v1 main_v3
  main_v4
-- ==== Kernel.lean ====
abbrev S4096x13 : Shape := ⟨2, ![4096, 13]⟩
abbrev S26x4096 : Shape := ⟨2, ![26, 4096]⟩
abbrev S26x128 : Shape := ⟨2, ![26, 128]⟩
abbrev S26x128x256 : Shape := ⟨3, ![26, 128, 256]⟩
abbrev S26x256 : Shape := ⟨2, ![26, 256]⟩
abbrev S26x256x64 : Shape := ⟨3, ![26, 256, 64]⟩
abbrev S26x64 : Shape := ⟨2, ![26, 64]⟩
abbrev S13x512 : Shape := ⟨2, ![13, 512]⟩
abbrev S512 : Shape := ⟨1, ![512]⟩
abbrev S512x256 : Shape := ⟨2, ![512, 256]⟩
abbrev S256 : Shape := ⟨1, ![256]⟩
abbrev S256x64 : Shape := ⟨2, ![256, 64]⟩
abbrev S64 : Shape := ⟨1, ![64]⟩
abbrev S1728x512 : Shape := ⟨2, ![1728, 512]⟩
abbrev S256x1 : Shape := ⟨2, ![256, 1]⟩
abbrev S1 : Shape := ⟨1, ![1]⟩
abbrev S13x128 : Shape := ⟨2, ![13, 128]⟩
abbrev S1x512 : Shape := ⟨2, ![1, 512]⟩
abbrev S1x256 : Shape := ⟨2, ![1, 256]⟩
abbrev S1x64 : Shape := ⟨2, ![1, 64]⟩
abbrev S1x1 : Shape := ⟨2, ![1, 1]⟩
abbrev S4096x1 : Shape := ⟨2, ![4096, 1]⟩
abbrev S2048x13 : Shape := ⟨2, ![2048, 13]⟩
abbrev S26x2048 : Shape := ⟨2, ![26, 2048]⟩
abbrev S2048x1 : Shape := ⟨2, ![2048, 1]⟩
abbrev S2048x1792 : Shape := ⟨2, ![2048, 1792]⟩
abbrev S13x512x128 : Shape := ⟨3, ![13, 512, 128]⟩
abbrev S1792x512 : Shape := ⟨2, ![1792, 512]⟩
abbrev S1x256x64 : Shape := ⟨3, ![1, 256, 64]⟩
abbrev S1664x512 : Shape := ⟨2, ![1664, 512]⟩
abbrev S64x512 : Shape := ⟨2, ![64, 512]⟩
abbrev S2048x64 : Shape := ⟨2, ![2048, 64]⟩
abbrev S2048x512 : Shape := ⟨2, ![2048, 512]⟩
abbrev S2048x256 : Shape := ⟨2, ![2048, 256]⟩
abbrev S1x2048 : Shape := ⟨2, ![1, 2048]⟩
abbrev S2048 : Shape := ⟨1, ![2048]⟩
abbrev S1x128 : Shape := ⟨2, ![1, 128]⟩
abbrev S128 : Shape := ⟨1, ![128]⟩
abbrev S2048x128 : Shape := ⟨2, ![2048, 128]⟩
abbrev S1x128x256 : Shape := ⟨3, ![1, 128, 256]⟩
abbrev S128x256 : Shape := ⟨2, ![128, 256]⟩
abbrev S1x512x128 : Shape := ⟨3, ![1, 512, 128]⟩
abbrev S512x128 : Shape := ⟨2, ![512, 128]⟩

abbrev nBuf : Space → Nat
  | .hbm => 29
  | .vmem => 29
  | .smem => 0
  | _ => 0

abbrev bufTy : (tb : Table) → Fin (tcTables nBuf tb) → BufTy
  | .hbm, ⟨0, _⟩ => ⟨S4096x13, .f32⟩
  | .hbm, ⟨1, _⟩ => ⟨S26x4096, .i32⟩
  | .hbm, ⟨2, _⟩ => ⟨S26x128, .i32⟩
  | .hbm, ⟨3, _⟩ => ⟨S26x128, .i32⟩
  | .hbm, ⟨4, _⟩ => ⟨S26x128x256, .f32⟩
  | .hbm, ⟨5, _⟩ => ⟨S26x256, .f32⟩
  | .hbm, ⟨6, _⟩ => ⟨S26x256x64, .f32⟩
  | .hbm, ⟨7, _⟩ => ⟨S26x64, .f32⟩
  | .hbm, ⟨8, _⟩ => ⟨S13x512, .f32⟩
  | .hbm, ⟨9, _⟩ => ⟨S512, .f32⟩
  | .hbm, ⟨10, _⟩ => ⟨S512x256, .f32⟩
  | .hbm, ⟨11, _⟩ => ⟨S256, .f32⟩
  | .hbm, ⟨12, _⟩ => ⟨S256x64, .f32⟩
  | .hbm, ⟨13, _⟩ => ⟨S64, .f32⟩
  | .hbm, ⟨14, _⟩ => ⟨S1728x512, .f32⟩
  | .hbm, ⟨15, _⟩ => ⟨S512, .f32⟩
  | .hbm, ⟨16, _⟩ => ⟨S512x256, .f32⟩
  | .hbm, ⟨17, _⟩ => ⟨S256, .f32⟩
  | .hbm, ⟨18, _⟩ => ⟨S256x1, .f32⟩
  | .hbm, ⟨19, _⟩ => ⟨S1, .f32⟩
  | .hbm, ⟨20, _⟩ => ⟨S13x128, .f32⟩
  | .hbm, ⟨21, _⟩ => ⟨S1x512, .f32⟩
  | .hbm, ⟨22, _⟩ => ⟨S1x256, .f32⟩
  | .hbm, ⟨23, _⟩ => ⟨S1x64, .f32⟩
  | .hbm, ⟨24, _⟩ => ⟨S1x512, .f32⟩
  | .hbm, ⟨25, _⟩ => ⟨S1x256, .f32⟩
  | .hbm, ⟨26, _⟩ => ⟨S1x256, .f32⟩
  | .hbm, ⟨27, _⟩ => ⟨S1x1, .f32⟩
  | .hbm, ⟨28, _⟩ => ⟨S4096x1, .f32⟩
  | .local _ .vmem, ⟨0, _⟩ => ⟨S2048x13, .f32⟩
  | .local _ .vmem, ⟨1, _⟩ => ⟨S2048x13, .f32⟩
  | .local _ .vmem, ⟨2, _⟩ => ⟨S26x2048, .i32⟩
  | .local _ .vmem, ⟨3, _⟩ => ⟨S26x2048, .i32⟩
  | .local _ .vmem, ⟨4, _⟩ => ⟨S26x128, .i32⟩
  | .local _ .vmem, ⟨5, _⟩ => ⟨S26x128, .i32⟩
  | .local _ .vmem, ⟨6, _⟩ => ⟨S26x128x256, .f32⟩
  | .local _ .vmem, ⟨7, _⟩ => ⟨S26x256, .f32⟩
  | .local _ .vmem, ⟨8, _⟩ => ⟨S26x256x64, .f32⟩
  | .local _ .vmem, ⟨9, _⟩ => ⟨S13x128, .f32⟩
  | .local _ .vmem, ⟨10, _⟩ => ⟨S13x512, .f32⟩
  | .local _ .vmem, ⟨11, _⟩ => ⟨S1x512, .f32⟩
  | .local _ .vmem, ⟨12, _⟩ => ⟨S512x256, .f32⟩
  | .local _ .vmem, ⟨13, _⟩ => ⟨S1x256, .f32⟩
  | .local _ .vmem, ⟨14, _⟩ => ⟨S256x64, .f32⟩
  | .local _ .vmem, ⟨15, _⟩ => ⟨S1x64, .f32⟩
  | .local _ .vmem, ⟨16, _⟩ => ⟨S1728x512, .f32⟩
  | .local _ .vmem, ⟨17, _⟩ => ⟨S1x512, .f32⟩
  | .local _ .vmem, ⟨18, _⟩ => ⟨S512x256, .f32⟩
  | .local _ .vmem, ⟨19, _⟩ => ⟨S1x256, .f32⟩
  | .local _ .vmem, ⟨20, _⟩ => ⟨S1x256, .f32⟩
  | .local _ .vmem, ⟨21, _⟩ => ⟨S1x1, .f32⟩
  | .local _ .vmem, ⟨22, _⟩ => ⟨S2048x1, .f32⟩
  | .local _ .vmem, ⟨23, _⟩ => ⟨S2048x1, .f32⟩
  | .local _ .vmem, ⟨24, _⟩ => ⟨S2048x1792, .f32⟩
  | .local _ .vmem, ⟨25, _⟩ => ⟨S26x128x256, .f32⟩
  | .local _ .vmem, ⟨26, _⟩ => ⟨S26x256, .f32⟩
  | .local _ .vmem, ⟨27, _⟩ => ⟨S13x512x128, .f32⟩
  | .local _ .vmem, ⟨28, _⟩ => ⟨S1792x512, .f32⟩
  | _, _ => ⟨S4096x13, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg18_0 : Ref sig .tc := ⟨.vmem, 20, rfl⟩
abbrev cc0_stg19_0 : Ref sig .tc := ⟨.vmem, 21, rfl⟩
abbrev cc0_stg20_0 : Ref sig .tc := ⟨.vmem, 22, rfl⟩
abbrev cc0_stg20_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_scratch4 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem18_0 : DmaSem sig := 20
abbrev cc0_sem19_0 : DmaSem sig := 21
abbrev cc0_sem20_0 : DmaSem sig := 22
abbrev cc0_sem20_1 : DmaSem sig := 23

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x13 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S26x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S26x128 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S26x128 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S26x128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S26x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S26x256x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S13x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S13x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1728x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S512x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x256 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x1 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 2 → Memref sig .tc .vmem S2048x1 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== KernelIdeal.lean ====
variable {F : FTy → Type} [FloatOps F] [Named F]
def κ : String → Option EReal := fun
  | "scale" => some ((2 / 999999 : ℝ) : EReal)
  | _ => none
-- ==== ReferenceIdeal.lean ====
abbrev S4096x13 : Shape := ⟨2, ![4096, 13]⟩
abbrev S26x4096 : Shape := ⟨2, ![26, 4096]⟩
abbrev S26x128 : Shape := ⟨2, ![26, 128]⟩
abbrev S26x128x256 : Shape := ⟨3, ![26, 128, 256]⟩
abbrev S26x256 : Shape := ⟨2, ![26, 256]⟩
abbrev S26x256x64 : Shape := ⟨3, ![26, 256, 64]⟩
abbrev S26x64 : Shape := ⟨2, ![26, 64]⟩
abbrev S13x512 : Shape := ⟨2, ![13, 512]⟩
abbrev S512 : Shape := ⟨1, ![512]⟩
abbrev S512x256 : Shape := ⟨2, ![512, 256]⟩
abbrev S256 : Shape := ⟨1, ![256]⟩
abbrev S256x64 : Shape := ⟨2, ![256, 64]⟩
abbrev S64 : Shape := ⟨1, ![64]⟩
abbrev S1728x512 : Shape := ⟨2, ![1728, 512]⟩
abbrev S256x1 : Shape := ⟨2, ![256, 1]⟩
abbrev S1 : Shape := ⟨1, ![1]⟩
abbrev S4096x512 : Shape := ⟨2, ![4096, 512]⟩
abbrev S1x512 : Shape := ⟨2, ![1, 512]⟩
abbrev S_ : Shape := ⟨0, ![]⟩
abbrev S4096x256 : Shape := ⟨2, ![4096, 256]⟩
abbrev S1x256 : Shape := ⟨2, ![1, 256]⟩
abbrev S4096x64 : Shape := ⟨2, ![4096, 64]⟩
abbrev S1x64 : Shape := ⟨2, ![1, 64]⟩
abbrev S26x4096x1 : Shape := ⟨3, ![26, 4096, 1]⟩
abbrev S26x1x128 : Shape := ⟨3, ![26, 1, 128]⟩
abbrev S26x4096x128 : Shape := ⟨3, ![26, 4096, 128]⟩
abbrev S26x4096x256 : Shape := ⟨3, ![26, 4096, 256]⟩
abbrev S26x1x256 : Shape := ⟨3, ![26, 1, 256]⟩
abbrev S26x4096x64 : Shape := ⟨3, ![26, 4096, 64]⟩
abbrev S26x1x64 : Shape := ⟨3, ![26, 1, 64]⟩
abbrev S4096x26x64 : Shape := ⟨3, ![4096, 26, 64]⟩
abbrev S4096x1664 : Shape := ⟨2, ![4096, 1664]⟩
abbrev S4096x1728 : Shape := ⟨2, ![4096, 1728]⟩
abbrev S4096x1 : Shape := ⟨2, ![4096, 1]⟩
abbrev S1x1 : Shape := ⟨2, ![1, 1]⟩

abbrev nBuf : Space → Nat
  | .hbm => 123
  | .vmem => 0
  | .smem => 0
  | _ => 0

abbrev bufTy : (tb : Table) → Fin (tcTables nBuf tb) → BufTy
  | .hbm, ⟨0, _⟩ => ⟨S4096x13, .f32⟩
  | .hbm, ⟨1, _⟩ => ⟨S26x4096, .i32⟩
  | .hbm, ⟨2, _⟩ => ⟨S26x128, .i32⟩
  | .hbm, ⟨3, _⟩ => ⟨S26x128, .i32⟩
  | .hbm, ⟨4, _⟩ => ⟨S26x128x256, .f32⟩
  | .hbm, ⟨5, _⟩ => ⟨S26x256, .f32⟩
  | .hbm, ⟨6, _⟩ => ⟨S26x256x64, .f32⟩
  | .hbm, ⟨7, _⟩ => ⟨S26x64, .f32⟩
  | .hbm, ⟨8, _⟩ => ⟨S13x512, .f32⟩
  | .hbm, ⟨9, _⟩ => ⟨S512, .f32⟩
  | .hbm, ⟨10, _⟩ => ⟨S512x256, .f32⟩
  | .hbm, ⟨11, _⟩ => ⟨S256, .f32⟩
  | .hbm, ⟨12, _⟩ => ⟨S256x64, .f32⟩
  | .hbm, ⟨13, _⟩ => ⟨S64, .f32⟩
  | .hbm, ⟨14, _⟩ => ⟨S1728x512, .f32⟩
  | .hbm, ⟨15, _⟩ => ⟨S512, .f32⟩
  | .hbm, ⟨16, _⟩ => ⟨S512x256, .f32⟩
  | .hbm, ⟨17, _⟩ => ⟨S256, .f32⟩
  | .hbm, ⟨18, _⟩ => ⟨S256x1, .f32⟩
  | .hbm, ⟨19, _⟩ => ⟨S1, .f32⟩
  | .hbm, ⟨20, _⟩ => ⟨S4096x512, .f32⟩
  | .hbm, ⟨21, _⟩ => ⟨S1x512, .f32⟩
  | .hbm, ⟨22, _⟩ => ⟨S4096x512, .f32⟩
  | .hbm, ⟨23, _⟩ => ⟨S4096x512, .f32⟩
  | .hbm, ⟨24, _⟩ => ⟨S_, .f32⟩
  | .hbm, ⟨25, _⟩ => ⟨S4096x512, .f32⟩
  | .hbm, ⟨26, _⟩ => ⟨S4096x512, .f32⟩
  | .hbm, ⟨27, _⟩ => ⟨S4096x256, .f32⟩
  | .hbm, ⟨28, _⟩ => ⟨S1x256, .f32⟩
  | .hbm, ⟨29, _⟩ => ⟨S4096x256, .f32⟩
  | .hbm, ⟨30, _⟩ => ⟨S4096x256, .f32⟩
  | .hbm, ⟨31, _⟩ => ⟨S_, .f32⟩
  | .hbm, ⟨32, _⟩ => ⟨S4096x256, .f32⟩
  | .hbm, ⟨33, _⟩ => ⟨S4096x256, .f32⟩
  | .hbm, ⟨34, _⟩ => ⟨S4096x64, .f32⟩
  | .hbm, ⟨35, _⟩ => ⟨S1x64, .f32⟩
  | .hbm, ⟨36, _⟩ => ⟨S4096x64, .f32⟩
  | .hbm, ⟨37, _⟩ => ⟨S4096x64, .f32⟩
  | .hbm, ⟨38, _⟩ => ⟨S_, .f32⟩
  | .hbm, ⟨39, _⟩ => ⟨S4096x64, .f32⟩
  | .hbm, ⟨40, _⟩ => ⟨S4096x64, .f32⟩
  | .hbm, ⟨41, _⟩ => ⟨S26x4096, .i32⟩
  | .hbm, ⟨42, _⟩ => ⟨S26x4096x1, .i32⟩
  | .hbm, ⟨43, _⟩ => ⟨S26x128, .i32⟩
  | .hbm, ⟨44, _⟩ => ⟨S26x1x128, .i32⟩
  | .hbm, ⟨45, _⟩ => ⟨S26x4096x128, .i32⟩
  | .hbm, ⟨46, _⟩ => ⟨S26x4096x128, .i32⟩
  | .hbm, ⟨47, _⟩ => ⟨S26x4096x128, .i32⟩
  | .hbm, ⟨48, _⟩ => ⟨S26x128, .i32⟩
  | .hbm, ⟨49, _⟩ => ⟨S26x1x128, .i32⟩
  | .hbm, ⟨50, _⟩ => ⟨S26x4096x128, .i32⟩
  | .hbm, ⟨51, _⟩ => ⟨S26x4096x128, .i32⟩
  | .hbm, ⟨52, _⟩ => ⟨S_, .i32⟩
  | .hbm, ⟨53, _⟩ => ⟨S_, .i32⟩
  | .hbm, ⟨54, _⟩ => ⟨S_, .i1⟩
  | .hbm, ⟨55, _⟩ => ⟨S_, .i32⟩
  | .hbm, ⟨56, _⟩ => ⟨S_, .i32⟩
  | .hbm, ⟨57, _⟩ => ⟨S26x4096x128, .i32⟩
  | .hbm, ⟨58, _⟩ => ⟨S26x4096x128, .i32⟩
  | .hbm, ⟨59, _⟩ => ⟨S_, .i32⟩
  | .hbm, ⟨60, _⟩ => ⟨S26x4096x128, .i32⟩
  | .hbm, ⟨61, _⟩ => ⟨S26x4096x128, .i1⟩
  | .hbm, ⟨62, _⟩ => ⟨S_, .i32⟩
  | .hbm, ⟨63, _⟩ => ⟨S26x4096x128, .i32⟩
  | .hbm, ⟨64, _⟩ => ⟨S26x4096x128, .i1⟩
  | .hbm, ⟨65, _⟩ => ⟨S_, .i32⟩
  | .hbm, ⟨66, _⟩ => ⟨S_, .i1⟩
  | .hbm, ⟨67, _⟩ => ⟨S26x4096x128, .i1⟩
  | .hbm, ⟨68, _⟩ => ⟨S26x4096x128, .i1⟩
  | .hbm, ⟨69, _⟩ => ⟨S26x4096x128, .i1⟩
  | .hbm, ⟨70, _⟩ => ⟨S26x4096x128, .i32⟩
  | .hbm, ⟨71, _⟩ => ⟨S26x4096x128, .i32⟩
  | .hbm, ⟨72, _⟩ => ⟨S26x4096x128, .i32⟩
  | .hbm, ⟨73, _⟩ => ⟨S26x4096x128, .f32⟩
  | .hbm, ⟨74, _⟩ => ⟨S_, .f32⟩
  | .hbm, ⟨75, _⟩ => ⟨S26x4096x128, .f32⟩
  | .hbm, ⟨76, _⟩ => ⟨S26x4096x128, .f32⟩
  | .hbm, ⟨77, _⟩ => ⟨S_, .f32⟩
  | .hbm, ⟨78, _⟩ => ⟨S26x4096x128, .f32⟩
  | .hbm, ⟨79, _⟩ => ⟨S26x4096x128, .f32⟩
  | .hbm, ⟨80, _⟩ => ⟨S_, .f32⟩
  | .hbm, ⟨81, _⟩ => ⟨S26x4096x128, .f32⟩
  | .hbm, ⟨82, _⟩ => ⟨S26x4096x128, .f32⟩
  | .hbm, ⟨83, _⟩ => ⟨S26x4096x256, .f32⟩
  | .hbm, ⟨84, _⟩ => ⟨S26x1x256, .f32⟩
  | .hbm, ⟨85, _⟩ => ⟨S26x4096x256, .f32⟩
  | .hbm, ⟨86, _⟩ => ⟨S26x4096x256, .f32⟩
  | .hbm, ⟨87, _⟩ => ⟨S_, .f32⟩
  | .hbm, ⟨88, _⟩ => ⟨S26x4096x256, .f32⟩
  | .hbm, ⟨89, _⟩ => ⟨S26x4096x256, .f32⟩
  | .hbm, ⟨90, _⟩ => ⟨S26x4096x64, .f32⟩
  | .hbm, ⟨91, _⟩ => ⟨S26x1x64, .f32⟩
  | .hbm, ⟨92, _⟩ => ⟨S26x4096x64, .f32⟩
  | .hbm, ⟨93, _⟩ => ⟨S26x4096x64, .f32⟩
  | .hbm, ⟨94, _⟩ => ⟨S4096x26x64, .f32⟩
  | .hbm, ⟨95, _⟩ => ⟨S4096x1664, .f32⟩
  | .hbm, ⟨96, _⟩ => ⟨S4096x1728, .f32⟩
  | .hbm, ⟨97, _⟩ => ⟨S4096x512, .f32⟩
  | .hbm, ⟨98, _⟩ => ⟨S1x512, .f32⟩
  | .hbm, ⟨99, _⟩ => ⟨S4096x512, .f32⟩
  | .hbm, ⟨100, _⟩ => ⟨S4096x512, .f32⟩
  | .hbm, ⟨101, _⟩ => ⟨S_, .f32⟩
  | .hbm, ⟨102, _⟩ => ⟨S4096x512, .f32⟩
  | .hbm, ⟨103, _⟩ => ⟨S4096x512, .f32⟩
  | .hbm, ⟨104, _⟩ => ⟨S4096x256, .f32⟩
  | .hbm, ⟨105, _⟩ => ⟨S1x256, .f32⟩
  | .hbm, ⟨106, _⟩ => ⟨S4096x256, .f32⟩
  | .hbm, ⟨107, _⟩ => ⟨S4096x256, .f32⟩
  | .hbm, ⟨108, _⟩ => ⟨S_, .f32⟩
  | .hbm, ⟨109, _⟩ => ⟨S4096x256, .f32⟩
  | .hbm, ⟨110, _⟩ => ⟨S4096x256, .f32⟩
  | .hbm, ⟨111, _⟩ => ⟨S4096x1, .f32⟩
  | .hbm, ⟨112, _⟩ => ⟨S1x1, .f32⟩
  | .hbm, ⟨113, _⟩ => ⟨S4096x1, .f32⟩
  | .hbm, ⟨114, _⟩ => ⟨S4096x1, .f32⟩
  | .hbm, ⟨115, _⟩ => ⟨S4096x1, .f32⟩
  | .hbm, ⟨116, _⟩ => ⟨S4096x1, .f32⟩
  | .hbm, ⟨117, _⟩ => ⟨S_, .f32⟩
  | .hbm, ⟨118, _⟩ => ⟨S4096x1, .f32⟩
  | .hbm, ⟨119, _⟩ => ⟨S4096x1, .f32⟩
  | .hbm, ⟨120, _⟩ => ⟨S_, .f32⟩
  | .hbm, ⟨121, _⟩ => ⟨S4096x1, .f32⟩
  | .hbm, ⟨122, _⟩ => ⟨S4096x1, .f32⟩
  | _, _ => ⟨S4096x13, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_call0_cst : Ref sig .tc := ⟨.hbm, 24, rfl⟩
abbrev main_call0_v0 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_call1_cst : Ref sig .tc := ⟨.hbm, 31, rfl⟩
abbrev main_call1_v0 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_call2_cst : Ref sig .tc := ⟨.hbm, 38, rfl⟩
abbrev main_call2_v0 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_c : Ref sig .tc := ⟨.hbm, 52, rfl⟩
abbrev main_call3_c : Ref sig .tc := ⟨.hbm, 53, rfl⟩
abbrev main_call3_v0 : Ref sig .tc := ⟨.hbm, 54, rfl⟩
abbrev main_call3_c_0 : Ref sig .tc := ⟨.hbm, 55, rfl⟩
abbrev main_call3_v1 : Ref sig .tc := ⟨.hbm, 56, rfl⟩
abbrev main_call3_v2 : Ref sig .tc := ⟨.hbm, 57, rfl⟩
abbrev main_call3_v3 : Ref sig .tc := ⟨.hbm, 58, rfl⟩
abbrev main_call3_c_1 : Ref sig .tc := ⟨.hbm, 59, rfl⟩
abbrev main_call3_v4 : Ref sig .tc := ⟨.hbm, 60, rfl⟩
abbrev main_call3_v5 : Ref sig .tc := ⟨.hbm, 61, rfl⟩
abbrev main_call3_c_2 : Ref sig .tc := ⟨.hbm, 62, rfl⟩
abbrev main_call3_v6 : Ref sig .tc := ⟨.hbm, 63, rfl⟩
abbrev main_call3_v7 : Ref sig .tc := ⟨.hbm, 64, rfl⟩
abbrev main_call3_c_3 : Ref sig .tc := ⟨.hbm, 65, rfl⟩
abbrev main_call3_v8 : Ref sig .tc := ⟨.hbm, 66, rfl⟩
abbrev main_call3_v9 : Ref sig .tc := ⟨.hbm, 67, rfl⟩
abbrev main_call3_v10 : Ref sig .tc := ⟨.hbm, 68, rfl⟩
abbrev main_call3_v11 : Ref sig .tc := ⟨.hbm, 69, rfl⟩
abbrev main_call3_v12 : Ref sig .tc := ⟨.hbm, 70, rfl⟩
abbrev main_call3_v13 : Ref sig .tc := ⟨.hbm, 71, rfl⟩
abbrev main_v26 : Ref sig .tc := ⟨.hbm, 72, rfl⟩
abbrev main_v27 : Ref sig .tc := ⟨.hbm, 73, rfl⟩
abbrev main_cst : Ref sig .tc := ⟨.hbm, 74, rfl⟩
abbrev main_v28 : Ref sig .tc := ⟨.hbm, 75, rfl⟩
abbrev main_v29 : Ref sig .tc := ⟨.hbm, 76, rfl⟩
abbrev main_cst_0 : Ref sig .tc := ⟨.hbm, 77, rfl⟩
abbrev main_v30 : Ref sig .tc := ⟨.hbm, 78, rfl⟩
abbrev main_v31 : Ref sig .tc := ⟨.hbm, 79, rfl⟩
abbrev main_cst_1 : Ref sig .tc := ⟨.hbm, 80, rfl⟩
abbrev main_v32 : Ref sig .tc := ⟨.hbm, 81, rfl⟩
abbrev main_v33 : Ref sig .tc := ⟨.hbm, 82, rfl⟩
abbrev main_v34 : Ref sig .tc := ⟨.hbm, 83, rfl⟩
abbrev main_v35 : Ref sig .tc := ⟨.hbm, 84, rfl⟩
abbrev main_v36 : Ref sig .tc := ⟨.hbm, 85, rfl⟩
abbrev main_v37 : Ref sig .tc := ⟨.hbm, 86, rfl⟩
abbrev main_call4_cst : Ref sig .tc := ⟨.hbm, 87, rfl⟩
abbrev main_call4_v0 : Ref sig .tc := ⟨.hbm, 88, rfl⟩
abbrev main_v38 : Ref sig .tc := ⟨.hbm, 89, rfl⟩
abbrev main_v39 : Ref sig .tc := ⟨.hbm, 90, rfl⟩
abbrev main_v40 : Ref sig .tc := ⟨.hbm, 91, rfl⟩
abbrev main_v41 : Ref sig .tc := ⟨.hbm, 92, rfl⟩
abbrev main_v42 : Ref sig .tc := ⟨.hbm, 93, rfl⟩
abbrev main_v43 : Ref sig .tc := ⟨.hbm, 94, rfl⟩
abbrev main_v44 : Ref sig .tc := ⟨.hbm, 95, rfl⟩
abbrev main_v45 : Ref sig .tc := ⟨.hbm, 96, rfl⟩
abbrev main_v46 : Ref sig .tc := ⟨.hbm, 97, rfl⟩
abbrev main_v47 : Ref sig .tc := ⟨.hbm, 98, rfl⟩
abbrev main_v48 : Ref sig .tc := ⟨.hbm, 99, rfl⟩
abbrev main_v49 : Ref sig .tc := ⟨.hbm, 100, rfl⟩
abbrev main_call5_cst : Ref sig .tc := ⟨.hbm, 101, rfl⟩
abbrev main_call5_v0 : Ref sig .tc := ⟨.hbm, 102, rfl⟩
abbrev main_v50 : Ref sig .tc := ⟨.hbm, 103, rfl⟩
abbrev main_v51 : Ref sig .tc := ⟨.hbm, 104, rfl⟩
abbrev main_v52 : Ref sig .tc := ⟨.hbm, 105, rfl⟩
abbrev main_v53 : Ref sig .tc := ⟨.hbm, 106, rfl⟩
abbrev main_v54 : Ref sig .tc := ⟨.hbm, 107, rfl⟩
abbrev main_call6_cst : Ref sig .tc := ⟨.hbm, 108, rfl⟩
abbrev main_call6_v0 : Ref sig .tc := ⟨.hbm, 109, rfl⟩
abbrev main_v55 : Ref sig .tc := ⟨.hbm, 110, rfl⟩
abbrev main_v56 : Ref sig .tc := ⟨.hbm, 111, rfl⟩
abbrev main_v57 : Ref sig .tc := ⟨.hbm, 112, rfl⟩
abbrev main_v58 : Ref sig .tc := ⟨.hbm, 113, rfl⟩
abbrev main_v59 : Ref sig .tc := ⟨.hbm, 114, rfl⟩
abbrev main_v60 : Ref sig .tc := ⟨.hbm, 115, rfl⟩
abbrev main_v61 : Ref sig .tc := ⟨.hbm, 116, rfl⟩
abbrev main_cst_2 : Ref sig .tc := ⟨.hbm, 117, rfl⟩
abbrev main_v62 : Ref sig .tc := ⟨.hbm, 118, rfl⟩
abbrev main_v63 : Ref sig .tc := ⟨.hbm, 119, rfl⟩
abbrev main_cst_3 : Ref sig .tc := ⟨.hbm, 120, rfl⟩
abbrev main_v64 : Ref sig .tc := ⟨.hbm, 121, rfl⟩
abbrev main_v65 : Ref sig .tc := ⟨.hbm, 122, rfl⟩

abbrev nD : Nat := 1
abbrev τ : Topo := Topo.v7x

variable {F : FTy → Type} [FloatOps F]
-- ==== Proof.Spec.lean ====
/- What both programs compute, written once as mathematics on the extended reals: a row's dense features through
   the bottom layers, each of the 26 hashed indices through its two-layer decoder, the 27 vectors laid side by side,
   the top layers and the logistic function. The arguments are plain functions of their coordinates. -/
module

public import Idealize.ShloMosaic.PureOps.Ideal

@[expose] public section

noncomputable section

namespace Cert.Dlrm

open Idealize.ShloMosaic

/-- The twenty argument arrays, read at their coordinates. -/
structure Args where
  x : Fin 4096 → Fin 13 → EReal
  idx : Fin 26 → Fin 4096 → BitVec 32
  ha : Fin 26 → Fin 128 → BitVec 32
  hb : Fin 26 → Fin 128 → BitVec 32
  dw1 : Fin 26 → Fin 128 → Fin 256 → EReal
  db1 : Fin 26 → Fin 256 → EReal
  dw2 : Fin 26 → Fin 256 → Fin 64 → EReal
  db2 : Fin 26 → Fin 64 → EReal
  bw1 : Fin 13 → Fin 512 → EReal
  bb1 : Fin 512 → EReal
  bw2 : Fin 512 → Fin 256 → EReal
  bb2 : Fin 256 → EReal
  bw3 : Fin 256 → Fin 64 → EReal
  bb3 : Fin 64 → EReal
  tw1 : Fin 1728 → Fin 512 → EReal
  tb1 : Fin 512 → EReal
  tw2 : Fin 512 → Fin 256 → EReal
  tb2 : Fin 256 → EReal
  tw3 : Fin 256 → EReal
  tb3 : EReal

/-- A layer without its activation: the row `v` times the matrix `w`, plus the bias. -/
def lin {n k : ℕ} (v : Fin n → EReal) (w : Fin n → Fin k → EReal) (b : Fin k → EReal) (j : Fin k) : EReal :=
  (∑ i, v i * w i j) + b j

/-- A layer followed by the rectifier. -/
def layer {n k : ℕ} (v : Fin n → EReal) (w : Fin n → Fin k → EReal) (b : Fin k → EReal) (j : Fin k) : EReal :=
  max (lin v w b j) 0

/-- The hash word: the multiplicative hash, wrapped at 32 bits, modulo one million. -/
def hash (i a b : BitVec 32) : BitVec 32 := (i * a + b) % 1000000#32

/-- The encoding of a hash word: its value scaled from `0 … 999999` onto `−1 … 1`. -/
def enc (h : BitVec 32) : EReal := Ideal.div ((h.toNat : ℝ) : EReal) ((999999 : ℝ) : EReal) * ((2 : ℝ) : EReal) - 1

/-- The hidden layer of table `t`'s decoder on row `r`. -/
def hid (A : Args) (r : Fin 4096) (t : Fin 26) : Fin 256 → EReal :=
  layer (fun k => enc (hash (A.idx t r) (A.ha t k) (A.hb t k))) (A.dw1 t) (A.db1 t)

/-- The embedding of table `t` on row `r`. -/
def emb (A : Args) (r : Fin 4096) (t : Fin 26) : Fin 64 → EReal := lin (hid A r t) (A.dw2 t) (A.db2 t)

/-- The bottom layers on row `r`. -/
def bot (A : Args) (r : Fin 4096) : Fin 64 → EReal :=
  layer (layer (layer (A.x r) A.bw1 A.bb1) A.bw2 A.bb2) A.bw3 A.bb3

/-- The 27 vectors of row `r` side by side: the bottom layers' output, then the embeddings in the tables' order. -/
def feat (A : Args) (r : Fin 4096) (k : Fin 1728) : EReal :=
  if h : k.val < 64 then bot A r ⟨k.val, h⟩
  else emb A r ⟨(k.val - 64) / 64, by omega⟩ ⟨(k.val - 64) % 64, by omega⟩

/-- The top layers' second output on row `r`, from the first layer's sums `s`. -/
def top2 (A : Args) (s : Fin 512 → EReal) : Fin 256 → EReal :=
  layer (fun j => max (s j + A.tb1 j) 0) A.tw2 A.tb2

/-- The last output of row `r`, from the first top layer's sums `s`. -/
def fin (A : Args) (s : Fin 512 → EReal) : EReal :=
  Ideal.logistic ((∑ k, top2 A s k * A.tw3 k) + A.tb3)

/-- The prediction for row `r`. -/
def out (A : Args) (r : Fin 4096) : EReal := fin A fun j => ∑ k, feat A r k * A.tw1 k j

end Cert.Dlrm

end
-- ==== Proof.Words.lean ====
/- The integer side: both programs' remainder by one million, with the sign corrections their text carries, is the
   plain remainder, and the word so found is the same number read signed or unsigned. -/
module

public import proofs.«01_k».proof.Proof.Spec
public import Idealize.ShloMosaic.Lib.Pointwise

@[expose] public section

set_option maxRecDepth 16384

noncomputable section

namespace Cert.Dlrm

open Idealize.ShloMosaic

/-- No word is below zero, read unsigned. -/
theorem ult_zero (x : BitVec 32) : IntOp.cmpi CmpIPredicate.ult x 0#32 = 0#1 := by
  simp [IntOp.cmpi, BitVec.ult]

/-- The divisor after its test for zero is one million. -/
theorem divisor : Scalar.select (IntOp.cmpi CmpIPredicate.eq 1000000#32 0#32) 1#32 1000000#32 = 1000000#32 := by decide

/-- The remainder of the hash by one million is `hash`, on either unit. -/
theorem rem_eq (u : ArithUnit) (i a b : BitVec 32) :
    IntOp.remui u (IntOp.addi (IntOp.muli i a) b) 1000000#32 = hash i a b := by
  simp [hash, IntOp.remui, IntOp.addi, IntOp.muli]

/-- The kernel's correction for a remainder whose sign differs from the divisor's never applies: both are unsigned. -/
theorem corrected (x c y z : BitVec 32) (d : BitVec 1) (hc : IntOp.cmpi CmpIPredicate.ult c 0#32 = 0#1) :
    Scalar.select (IntOp.andi (IntOp.xori (IntOp.cmpi CmpIPredicate.ult x 0#32) (IntOp.cmpi CmpIPredicate.ult c 0#32)) d) y z = z := by
  rw [ult_zero, hc]
  simp [IntOp.andi, IntOp.xori, Scalar.select]

/-- The same correction with the two signs compared instead of combined. -/
theorem corrected' (x c y z : BitVec 32) (d : BitVec 1) :
    Scalar.select (IntOp.andi (IntOp.cmpi CmpIPredicate.ne (IntOp.cmpi CmpIPredicate.ult x 0#32) (IntOp.cmpi CmpIPredicate.ult c 0#32)) d) y z = z := by
  rw [ult_zero, ult_zero]
  simp [IntOp.andi, IntOp.cmpi, Scalar.select]

/-- A hash word is below one million. -/
theorem hash_lt (i a b : BitVec 32) : (hash i a b).toNat < 1000000 := by
  rw [hash, BitVec.toNat_umod]
  exact Nat.mod_lt _ (by decide)

/-- So read as a signed integer it is the same number. -/
theorem sitofp_hash (i a b : BitVec 32) :
    FloatOps.sitofp (F := Ideal) FTy.f32 (hash i a b) = (((hash i a b).toNat : ℝ) : EReal) := by
  show (((hash i a b).toInt : ℝ) : EReal) = _
  have := hash_lt i a b
  rw [BitVec.toInt_eq_toNat_of_lt (by omega)]
  simp

/-- Read as an unsigned integer too. -/
theorem uitofp_hash (i a b : BitVec 32) :
    FloatOps.uitofp (F := Ideal) FTy.f32 (hash i a b) = (((hash i a b).toNat : ℝ) : EReal) := rfl

/-- The divisor of the encoding. -/
theorem ofBits_divisor : Ideal.ofBits .f32 1232348144#32 = ((999999 : ℝ) : EReal) := by
  simp [Ideal.ofBits, Ideal.ieee, -EReal.coe_mul]
  norm_num

/-- The factor of the encoding. -/
theorem ofBits_two : Ideal.ofBits .f32 1073741824#32 = ((2 : ℝ) : EReal) := by
  simp [Ideal.ofBits, Ideal.ieee, -EReal.coe_mul]
  norm_num

end Cert.Dlrm

end
-- ==== Proof.Block.lean ====
/- What one grid point computes, payload by payload, read at an index: the hidden layer of one table, the two
   embeddings of a pair, the bottom layers, the top layers, and the prepared weights. -/
module

public import proofs.«01_k».proof.Proof.Words
public import proofs.«01_k».proof.Proof.Gen.KernelIdeal.Skeleton
public import Idealize.ShloMosaic.Lib.Pointwise

@[expose] public section

set_option maxRecDepth 16384

noncomputable section

namespace Cert.KernelIdeal.Block

open Cert.KernelIdeal Cert.KernelIdeal.Gen Cert.Dlrm Idealize.ShloMosaic Idealize.ShloMosaic.TcCoe

/-- One table's hidden unit from its hash row, the prepared weights and the prepared bias. -/
def unit (i : BitVec 32) (a b : Fin 128 → BitVec 32) (w : Fin 128 → EReal) (c : EReal) : EReal :=
  max ((∑ k, (((hash i (a k) (b k)).toNat : ℝ) : EReal) * w k) + c) 0

/-- The first table of a pair: the block of its hidden layer at row `r`, unit `o`. -/
theorem table_apply (v1 : Vec Ideal S1x2048 .i32) (v2 v3 : Vec Ideal S1x128 .i32) (v4 : Vec Ideal S1x128x256 .f32)
    (v5 : Vec Ideal S1x256 .f32) (r : Fin 2048) (o : Fin 256) :
    k0_pay41 v1 v2 v3 v4 v5 (ix2 r o)
      = unit (v1 (ix2 0 r)) (fun k => v2 (ix2 0 k)) (fun k => v3 (ix2 0 k)) (fun k => v4 (ix3 0 k o)) (v5 (ix2 0 o)) := by
  pointwise [k0_pay41]
  simp only [divisor, corrected _ 1000000#32 _ _ _ (ult_zero _), rem_eq, sitofp_hash, Scalar.cmpi, unit]

/-- A pair's block of embeddings from the two hidden layers, laid side by side: times the pair's block-diagonal
    matrix, plus the pair's bias. -/
def joined {F : FTy → Type} [FloatOps F] [Named F] (h0 h1 : FVec F S2048x256 .f32) (w : Vec F S1x512x128 .f32) (d : Vec F S1x128 .f32) :
    FVec F S2048x128 .f32 :=
  k0_pay43 (concatenate S2048x512 1 [⟨S2048x256, h0⟩, ⟨S2048x256, h1⟩] concatenates_S2048x256_S2048x256_S2048x512_d1) w d

/-- The joined block at row `r`, column `o`: each hidden layer times its half of the matrix. -/
theorem joined_apply (h0 h1 : FVec Ideal S2048x256 .f32) (w : Vec Ideal S1x512x128 .f32) (d : Vec Ideal S1x128 .f32) (r : Fin 2048) (o : Fin 128) :
    joined h0 h1 w d (ix2 r o)
      = ((∑ k : Fin 256, h0 (ix2 r k) * w (ix3 0 ⟨k.val, by omega⟩ o))
          + ∑ k : Fin 256, h1 (ix2 r k) * w (ix3 0 ⟨256 + k.val, by omega⟩ o)) + d (ix2 0 o) := by
  pointwise [joined, k0_pay43]

/-- A pair's block of embeddings from what the point loads for it. -/
def pair {F : FTy → Type} [FloatOps F] [Named F] (i0 : Vec F S1x2048 .i32) (a0 b0 : Vec F S1x128 .i32) (w0 : Vec F S1x128x256 .f32) (c0 : Vec F S1x256 .f32)
    (i1 : Vec F S1x2048 .i32) (a1 b1 : Vec F S1x128 .i32) (w1 : Vec F S1x128x256 .f32) (c1 : Vec F S1x256 .f32)
    (w : Vec F S1x512x128 .f32) (d : Vec F S1x128 .f32) : FVec F S2048x128 .f32 :=
  joined (k0_pay41 i0 a0 b0 w0 c0) (k0_pay41 i1 a1 b1 w1 c1) w d

/-- A pair's block at row `r`, column `o`. -/
theorem pair_apply (i0 : Vec Ideal S1x2048 .i32) (a0 b0 : Vec Ideal S1x128 .i32) (w0 : Vec Ideal S1x128x256 .f32) (c0 : Vec Ideal S1x256 .f32)
    (i1 : Vec Ideal S1x2048 .i32) (a1 b1 : Vec Ideal S1x128 .i32) (w1 : Vec Ideal S1x128x256 .f32) (c1 : Vec Ideal S1x256 .f32)
    (w : Vec Ideal S1x512x128 .f32) (d : Vec Ideal S1x128 .f32) (r : Fin 2048) (o : Fin 128) :
    pair i0 a0 b0 w0 c0 i1 a1 b1 w1 c1 w d (ix2 r o)
      = ((∑ k : Fin 256, unit (i0 (ix2 0 r)) (fun j => a0 (ix2 0 j)) (fun j => b0 (ix2 0 j)) (fun j => w0 (ix3 0 j k)) (c0 (ix2 0 k))
            * w (ix3 0 ⟨k.val, by omega⟩ o))
          + ∑ k : Fin 256, unit (i1 (ix2 0 r)) (fun j => a1 (ix2 0 j)) (fun j => b1 (ix2 0 j)) (fun j => w1 (ix3 0 j k)) (c1 (ix2 0 k))
            * w (ix3 0 ⟨256 + k.val, by omega⟩ o)) + d (ix2 0 o) := by
  unfold pair
  rw [joined_apply]
  simp only [table_apply]

/-- The bottom layers' block at row `r`, column `o`. -/
theorem bottom_apply (x : Vec Ideal S2048x13 .f32) (w1 : Vec Ideal S13x512 .f32) (b1 : Vec Ideal S1x512 .f32) (w2 : Vec Ideal S512x256 .f32)
    (b2 : Vec Ideal S1x256 .f32) (w3 : Vec Ideal S256x64 .f32) (b3 : Vec Ideal S1x64 .f32) (r : Fin 2048) (o : Fin 64) :
    k0_pay40 x w1 b1 w2 b2 w3 b3 (ix2 r o)
      = layer (layer (layer (fun k => x (ix2 r k)) (fun k j => w1 (ix2 k j)) (fun j => b1 (ix2 0 j)))
          (fun k j => w2 (ix2 k j)) (fun j => b2 (ix2 0 j))) (fun k j => w3 (ix2 k j)) (fun j => b3 (ix2 0 j)) o := by
  pointwise [k0_pay40]
  simp only [layer, lin]

/-- The second top layer's sums at row `r`, column `o`. -/
theorem top_apply (z : Vec Ideal S2048x1792 .f32) (w1 : Vec Ideal S1792x512 .f32) (b1 : Vec Ideal S1x512 .f32) (w2 : Vec Ideal S512x256 .f32)
    (b2 : Vec Ideal S1x256 .f32) (r : Fin 2048) (o : Fin 256) :
    k0_pay129 z w1 b1 w2 b2 (ix2 r o)
      = lin (fun j => max ((∑ k, z (ix2 r k) * w1 (ix2 k j)) + b1 (ix2 0 j)) 0) (fun k j => w2 (ix2 k j)) (fun j => b2 (ix2 0 j)) o := by
  pointwise [k0_pay129]
  simp only [lin]

/-- The output block at row `r`. -/
theorem out_apply (z : FVec Ideal S2048x256 .f32) (w : Vec Ideal S1x256 .f32) (b : Vec Ideal S1x1 .f32) (r : Fin 2048) :
    k0_pay1 z w b (ix2 r 0) = Ideal.logistic ((∑ k, max (z (ix2 r k)) 0 * w (ix2 0 k)) + b (ix2 0 0)) := by
  pointwise [k0_pay1]

end Cert.KernelIdeal.Block

end
-- ==== Proof.Algebra.lean ====
/- The equations between extended reals that the claim rests on: the scaled decoder layer is the encoded one when
   the weights are finite, and a sum over the padded, reordered features is the sum over the features. -/
module

public import proofs.«01_k».proof.Proof.Spec

@[expose] public section

noncomputable section

namespace Cert.Dlrm

open Idealize.ShloMosaic

/-- A finite sum of reals, taken among the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Moving a real from one summand to the other. -/
theorem add_sub_real (x y : ℝ) (b : EReal) : (x : EReal) + (b - (y : EReal)) = ((x - y : ℝ) : EReal) + b := by
  induction b with
  | bot => simp [EReal.bot_sub]
  | top => simp [EReal.top_sub_coe, EReal.coe_add_top, -EReal.coe_sub]
  | coe b => norm_cast; ring

/-- The decoder's first layer, with the scale moved into the weights and the weights' column sum out of the bias. -/
theorem scaled_layer {n : ℕ} (h : Fin n → BitVec 32) (w : Fin n → EReal) (b : EReal) (hw : ∀ k, ⊥ < w k ∧ w k < ⊤) :
    (∑ k, (((h k).toNat : ℝ) : EReal) * (w k * ((2 / 999999 : ℝ) : EReal))) + (b - ∑ k, w k) = (∑ k, enc (h k) * w k) + b := by
  obtain ⟨v, rfl⟩ : ∃ v : Fin n → ℝ, w = fun k => (v k : EReal) :=
    ⟨fun k => (w k).toReal, funext fun k => (EReal.coe_toReal (hw k).2.ne (hw k).1.ne').symm⟩
  have h1 : ∀ k, (((h k).toNat : ℝ) : EReal) * ((v k : EReal) * ((2 / 999999 : ℝ) : EReal))
      = (((h k).toNat * (v k * (2 / 999999)) : ℝ) : EReal) := fun k => by norm_cast
  have h2 : ∀ k, enc (h k) * (v k : EReal) = ((((h k).toNat / 999999 * 2 - 1) * v k : ℝ) : EReal) := fun k => by
    rw [enc, Ideal.div_coe (by norm_num)]
    norm_cast
    simp only [one_div, div_eq_mul_inv, one_mul]
  simp only [h1, h2, ← coe_sum, add_sub_real]
  congr 2
  rw [← Finset.sum_sub_distrib]
  exact Finset.sum_congr rfl fun k _ => by ring

/-- A sum over the features of row `r`: over the bottom vector, then over the embeddings. -/
theorem feat_sum (A : Args) (r : Fin 4096) (w : Fin 1728 → EReal) :
    (∑ k, feat A r k * w k) = (∑ k : Fin 64, bot A r k * w ⟨k.val, by omega⟩)
      + ∑ k : Fin 1664, emb A r ⟨k.val / 64, by omega⟩ ⟨k.val % 64, by omega⟩ * w ⟨64 + k.val, by omega⟩ := by
  rw [show (∑ k, feat A r k * w k) = ∑ k : Fin (64 + 1664), feat A r k * w k from rfl, Fin.sum_univ_add]
  refine congrArg₂ _ (Finset.sum_congr rfl fun k _ => ?_) (Finset.sum_congr rfl fun k _ => ?_)
  · simp [feat]; rfl
  · simp [feat]; rfl

/-- The sum over the padded axis (embeddings, bottom vector, zeros) is the sum over the features. -/
theorem sum_reordered (A : Args) (r : Fin 4096) (w : Fin 1728 → EReal) (z v : Fin 1792 → EReal)
    (ze : ∀ k : Fin 1664, z ⟨k.val, by omega⟩ = emb A r ⟨k.val / 64, by omega⟩ ⟨k.val % 64, by omega⟩)
    (zh : ∀ k : Fin 64, z ⟨1664 + k.val, by omega⟩ = bot A r k)
    (ve : ∀ k : Fin 1664, v ⟨k.val, by omega⟩ = w ⟨64 + k.val, by omega⟩) (vh : ∀ k : Fin 64, v ⟨1664 + k.val, by omega⟩ = w ⟨k.val, by omega⟩)
    (v0 : ∀ k : Fin 64, v ⟨1728 + k.val, by omega⟩ = 0) :
    (∑ k, z k * v k) = ∑ k, feat A r k * w k := by
  rw [feat_sum, add_comm, show (∑ k, z k * v k) = ∑ k : Fin (1664 + 64 + 64), z k * v k from rfl, Fin.sum_univ_add, Fin.sum_univ_add]
  refine (congrArg₂ _ (congrArg₂ _ (Finset.sum_congr rfl fun k _ => ?_) (Finset.sum_congr rfl fun k _ => ?_)) (Finset.sum_eq_zero fun k _ => ?_)).trans (add_zero _)
  · rw [← ze k, ← ve k]; rfl
  · rw [← zh k, ← vh k]; rfl
  · exact (congrArg (z ⟨1728 + k.val, by omega⟩ * ·) (v0 k)).trans (mul_zero _)

end Cert.Dlrm

end
-- ==== Proof.Stores.lean ====
/- Reading an array back after stores into parts of it: whatever it held before, an index that some store covers
   reads what the stores put there, when all of them are blocks of one array. -/
module

public import Idealize.ShloMosaic.Lib.Pipeline.ValueKit
public import Idealize.ShloMosaic.Lib.Pipeline.ReadBack

@[expose] public section

noncomputable section

namespace Cert.Dlrm

open Idealize.ShloMosaic

variable {sig : RefSig} {κ : Kind} {sp : Space} {s : Shape} {e : EltTy} {Val : EltTy → Type} [∀ e, Nonempty (Val e)]

/-- A load through a rectangle, after stores, is the rectangle of what the stores leave. -/
theorem readCov_eq_ld (v : View sig κ sp s e) (L : List (View.Piece Val s e)) (r : Rect s) :
    v.readCov L r.toLoadRect = View.ld (View.canon L) r := by
  rw [View.readCov_eq_canon']

/-- Stores that are blocks of `G`, over any contents, leave `G` at every index that one of them covers. -/
theorem read_writes_of_pieces (v : View sig κ sp s e) (X : v.ty.Contents Val) (G : s.Idx → Val e) :
    ∀ L : List (View.Piece Val s e), View.PiecesOf G L → ∀ y, (∃ p ∈ L, y ∈ p.1.set) → v.read Val (v.writes Val X L) y = G y
  | [], _, _, h => by obtain ⟨p, hp, _⟩ := h; exact absurd hp List.not_mem_nil
  | p :: L, hL, y, h => by
    by_cases hy : y ∈ p.1.set
    · obtain ⟨r, w⟩ := p
      obtain ⟨x, rfl⟩ : ∃ x, r.emb x = y := r.exists_idx_of_mem hy
      rw [View.read_writes_cons_emb]
      exact hL.1 x
    · have hy' : y ∉ Finset.univ.map p.1.emb := by rwa [Rect.map_emb_univ]
      rw [View.writes_cons, View.read_slice_write_of_not_mem p.1 _ _ _ hy']
      obtain ⟨q, hq, hyq⟩ := h
      rcases List.mem_cons.mp hq with rfl | hq
      · exact absurd hyq hy
      · exact read_writes_of_pieces v X G L hL.2 y ⟨q, hq, hyq⟩

end Cert.Dlrm

end
-- ==== Proof.Args.lean ====
/- The specification's arguments from twenty arrays read at their indices. -/
module

public import proofs.«01_k».proof.Proof.Spec
public import Idealize.ShloMosaic.Lib.Pointwise

@[expose] public section

noncomputable section

namespace Cert.Dlrm

open Idealize.ShloMosaic

/-- The arguments as functions of their coordinates. -/
def Args.of (x : (⟨2, ![4096, 13]⟩ : Shape).Idx → EReal) (idx : (⟨2, ![26, 4096]⟩ : Shape).Idx → BitVec 32)
    (ha hb : (⟨2, ![26, 128]⟩ : Shape).Idx → BitVec 32)
    (dw1 : (⟨3, ![26, 128, 256]⟩ : Shape).Idx → EReal) (db1 : (⟨2, ![26, 256]⟩ : Shape).Idx → EReal)
    (dw2 : (⟨3, ![26, 256, 64]⟩ : Shape).Idx → EReal) (db2 : (⟨2, ![26, 64]⟩ : Shape).Idx → EReal)
    (bw1 : (⟨2, ![13, 512]⟩ : Shape).Idx → EReal) (bb1 : (⟨1, ![512]⟩ : Shape).Idx → EReal)
    (bw2 : (⟨2, ![512, 256]⟩ : Shape).Idx → EReal) (bb2 : (⟨1, ![256]⟩ : Shape).Idx → EReal)
    (bw3 : (⟨2, ![256, 64]⟩ : Shape).Idx → EReal) (bb3 : (⟨1, ![64]⟩ : Shape).Idx → EReal)
    (tw1 : (⟨2, ![1728, 512]⟩ : Shape).Idx → EReal) (tb1 : (⟨1, ![512]⟩ : Shape).Idx → EReal)
    (tw2 : (⟨2, ![512, 256]⟩ : Shape).Idx → EReal) (tb2 : (⟨1, ![256]⟩ : Shape).Idx → EReal)
    (tw3 : (⟨2, ![256, 1]⟩ : Shape).Idx → EReal) (tb3 : (⟨1, ![1]⟩ : Shape).Idx → EReal) : Args where
  x r k := x (ix2 r k)
  idx t r := idx (ix2 t r)
  ha t k := ha (ix2 t k)
  hb t k := hb (ix2 t k)
  dw1 t k j := dw1 (ix3 t k j)
  db1 t j := db1 (ix2 t j)
  dw2 t k j := dw2 (ix3 t k j)
  db2 t j := db2 (ix2 t j)
  bw1 k j := bw1 (ix2 k j)
  bb1 j := bb1 (ix1 j)
  bw2 k j := bw2 (ix2 k j)
  bb2 j := bb2 (ix1 j)
  bw3 k j := bw3 (ix2 k j)
  bb3 j := bb3 (ix1 j)
  tw1 k j := tw1 (ix2 k j)
  tb1 j := tb1 (ix1 j)
  tw2 k j := tw2 (ix2 k j)
  tb2 j := tb2 (ix1 j)
  tw3 k := tw3 (ix2 k 0)
  tb3 := tb3 (ix1 0)

end Cert.Dlrm

end
-- ==== Proof.Blocks.lean ====
/- The blocks that the windows hold at a point, entry by entry, as entries of the arguments. -/
module

public import proofs.«01_k».proof.Proof.Args
public import proofs.«01_k».proof.Proof.Gen.KernelIdeal.Value
public import Idealize.ShloMosaic.Lib.Pipeline.ValueKit

@[expose] public section

set_option maxRecDepth 16384

noncomputable section

namespace Cert.KernelIdeal.Value

open Cert.KernelIdeal Cert.KernelIdeal.Gen Cert.Dlrm Idealize.ShloMosaic Idealize.ShloMosaic.TcCoe

variable (m : (ℓ : Loc nD τ sig) → Buf (Elt Ideal) ℓ)

/-- The arguments that memory holds at launch. -/
def args (c : Dev nD) : Args :=
  Args.of (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10)) (m ((c : Thread nD τ).loc main_arg11))
    (m ((c : Thread nD τ).loc main_arg12)) (m ((c : Thread nD τ).loc main_arg13)) (m ((c : Thread nD τ).loc main_arg14)) (m ((c : Thread nD τ).loc main_arg15))
    (m ((c : Thread nD τ).loc main_arg16)) (m ((c : Thread nD τ).loc main_arg17)) (m ((c : Thread nD τ).loc main_arg18)) (m ((c : Thread nD τ).loc main_arg19))

/-- The row of the batch that row `r` of block `t` is. -/
def row (t : Fin cfg0.N) (r : Fin 2048) : Fin 4096 := ⟨t.val * 2048 + r.val, by have := t.isLt; have : cfg0.N = 2 := rfl; omega⟩

/-- The blocks of the dense features go down the rows. -/
theorem index_rows : ∀ t : Fin cfg0.N, win0_0.index t 0 = t.val ∧ win0_0.index t 1 = 0 := (by decide +kernel : ∀ t : Fin grid0.N, _)

/-- The blocks of the indices go along the columns. -/
theorem index_columns : ∀ t : Fin cfg0.N, win0_1.index t 0 = 0 ∧ win0_1.index t 1 = t.val := (by decide +kernel : ∀ t : Fin grid0.N, _)

/-- The block of every other input is the whole array, at either point. -/
theorem index_whole : ∀ t : Fin cfg0.N,
    (win0_2.index t 0 = 0 ∧ win0_2.index t 1 = 0)
    ∧ (win0_3.index t 0 = 0 ∧ win0_3.index t 1 = 0)
    ∧ (win0_4.index t 0 = 0 ∧ win0_4.index t 1 = 0 ∧ win0_4.index t 2 = 0)
    ∧ (win0_5.index t 0 = 0 ∧ win0_5.index t 1 = 0)
    ∧ (win0_6.index t 0 = 0 ∧ win0_6.index t 1 = 0 ∧ win0_6.index t 2 = 0)
    ∧ (win0_7.index t 0 = 0 ∧ win0_7.index t 1 = 0)
    ∧ (win0_8.index t 0 = 0 ∧ win0_8.index t 1 = 0)
    ∧ (win0_9.index t 0 = 0 ∧ win0_9.index t 1 = 0)
    ∧ (win0_10.index t 0 = 0 ∧ win0_10.index t 1 = 0)
    ∧ (win0_11.index t 0 = 0 ∧ win0_11.index t 1 = 0)
    ∧ (win0_12.index t 0 = 0 ∧ win0_12.index t 1 = 0)
    ∧ (win0_13.index t 0 = 0 ∧ win0_13.index t 1 = 0)
    ∧ (win0_14.index t 0 = 0 ∧ win0_14.index t 1 = 0)
    ∧ (win0_15.index t 0 = 0 ∧ win0_15.index t 1 = 0)
    ∧ (win0_16.index t 0 = 0 ∧ win0_16.index t 1 = 0)
    ∧ (win0_17.index t 0 = 0 ∧ win0_17.index t 1 = 0)
    ∧ (win0_18.index t 0 = 0 ∧ win0_18.index t 1 = 0)
    ∧ (win0_19.index t 0 = 0 ∧ win0_19.index t 1 = 0) :=
  (by decide +kernel : ∀ t : Fin grid0.N, _)

variable (c : Dev nD) (t : Fin cfg0.N)

/-- Window 0: dense feature `k` of row `r`. -/
theorem blk0 (r : Fin 2048) (k : Fin 13) : iblk m c 0 t (ix2 r k) = (args m c).x (row t r) k := by
  show _ = m ((c : Thread nD τ).loc main_arg0) (ix2 (row t r) k)
  blk_ext! [iblk, V, index_rows t, row]

/-- Window 1: table `p`'s index in row `r`. -/
theorem blk1 (p : Fin 26) (r : Fin 2048) : iblk m c 1 t (ix2 p r) = (args m c).idx p (row t r) := by
  show _ = m ((c : Thread nD τ).loc main_arg1) (ix2 p (row t r))
  blk_ext! [iblk, V, index_columns t, row]

/-- Window 2: the multipliers of the hashes. -/
theorem blk2 (p : Fin 26) (k : Fin 128) : iblk m c 2 t (ix2 p k) = (args m c).ha p k := by
  show _ = m ((c : Thread nD τ).loc main_arg2) (ix2 p k)
  blk_ext! [iblk, V, index_whole t]

/-- Window 3: the offsets of the hashes. -/
theorem blk3 (p : Fin 26) (k : Fin 128) : iblk m c 3 t (ix2 p k) = (args m c).hb p k := by
  show _ = m ((c : Thread nD τ).loc main_arg3) (ix2 p k)
  blk_ext! [iblk, V, index_whole t]

/-- Window 4: the decoders' first weights. -/
theorem blk4 (p : Fin 26) (k : Fin 128) (j : Fin 256) : iblk m c 4 t (ix3 p k j) = (args m c).dw1 p k j := by
  show _ = m ((c : Thread nD τ).loc main_arg4) (ix3 p k j)
  blk_ext! [iblk, V, index_whole t]

/-- Window 5: the decoders' first biases. -/
theorem blk5 (p : Fin 26) (j : Fin 256) : iblk m c 5 t (ix2 p j) = (args m c).db1 p j := by
  show _ = m ((c : Thread nD τ).loc main_arg5) (ix2 p j)
  blk_ext! [iblk, V, index_whole t]

/-- Window 6: the decoders' second weights. -/
theorem blk6 (p : Fin 26) (k : Fin 256) (j : Fin 64) : iblk m c 6 t (ix3 p k j) = (args m c).dw2 p k j := by
  show _ = m ((c : Thread nD τ).loc main_arg6) (ix3 p k j)
  blk_ext! [iblk, V, index_whole t]

/-- Window 7: the decoders' second biases, two tables in a row. -/
theorem blk7 (p : Fin 13) (j : Fin 128) : iblk m c 7 t (ix2 p j) = (args m c).db2 ⟨2 * p.val + j.val / 64, by omega⟩ ⟨j.val % 64, by omega⟩ := by
  show _ = m ((c : Thread nD τ).loc main_arg7) (ix2 ⟨2 * p.val + j.val / 64, by omega⟩ ⟨j.val % 64, by omega⟩)
  blk_ext! [iblk, V, index_whole t]

/-- Window 8: the bottom weights. -/
theorem blk8 (k : Fin 13) (j : Fin 512) : iblk m c 8 t (ix2 k j) = (args m c).bw1 k j := by
  show _ = m ((c : Thread nD τ).loc main_arg8) (ix2 k j)
  blk_ext! [iblk, V, index_whole t]

/-- Window 9: the bottom biases. -/
theorem blk9 (j : Fin 512) : iblk m c 9 t (ix2 0 j) = (args m c).bb1 j := by
  show _ = m ((c : Thread nD τ).loc main_arg9) (ix1 j)
  blk_ext! [iblk, V, index_whole t]

/-- Window 10: the bottom weights. -/
theorem blk10 (k : Fin 512) (j : Fin 256) : iblk m c 10 t (ix2 k j) = (args m c).bw2 k j := by
  show _ = m ((c : Thread nD τ).loc main_arg10) (ix2 k j)
  blk_ext! [iblk, V, index_whole t]

/-- Window 11: the bottom biases. -/
theorem blk11 (j : Fin 256) : iblk m c 11 t (ix2 0 j) = (args m c).bb2 j := by
  show _ = m ((c : Thread nD τ).loc main_arg11) (ix1 j)
  blk_ext! [iblk, V, index_whole t]

/-- Window 12: the bottom weights. -/
theorem blk12 (k : Fin 256) (j : Fin 64) : iblk m c 12 t (ix2 k j) = (args m c).bw3 k j := by
  show _ = m ((c : Thread nD τ).loc main_arg12) (ix2 k j)
  blk_ext! [iblk, V, index_whole t]

/-- Window 13: the bottom biases. -/
theorem blk13 (j : Fin 64) : iblk m c 13 t (ix2 0 j) = (args m c).bb3 j := by
  show _ = m ((c : Thread nD τ).loc main_arg13) (ix1 j)
  blk_ext! [iblk, V, index_whole t]

/-- Window 14: the top weights. -/
theorem blk14 (k : Fin 1728) (j : Fin 512) : iblk m c 14 t (ix2 k j) = (args m c).tw1 k j := by
  show _ = m ((c : Thread nD τ).loc main_arg14) (ix2 k j)
  blk_ext! [iblk, V, index_whole t]

/-- Window 15: the top biases. -/
theorem blk15 (j : Fin 512) : iblk m c 15 t (ix2 0 j) = (args m c).tb1 j := by
  show _ = m ((c : Thread nD τ).loc main_arg15) (ix1 j)
  blk_ext! [iblk, V, index_whole t]

/-- Window 16: the top weights. -/
theorem blk16 (k : Fin 512) (j : Fin 256) : iblk m c 16 t (ix2 k j) = (args m c).tw2 k j := by
  show _ = m ((c : Thread nD τ).loc main_arg16) (ix2 k j)
  blk_ext! [iblk, V, index_whole t]

/-- Window 17: the top biases. -/
theorem blk17 (j : Fin 256) : iblk m c 17 t (ix2 0 j) = (args m c).tb2 j := by
  show _ = m ((c : Thread nD τ).loc main_arg17) (ix1 j)
  blk_ext! [iblk, V, index_whole t]

/-- Window 18: the last weights. -/
theorem blk18 (k : Fin 256) : iblk m c 18 t (ix2 0 k) = (args m c).tw3 k := by
  show _ = m ((c : Thread nD τ).loc main_arg18) (ix2 k 0)
  blk_ext! [iblk, V, index_whole t]

/-- Window 19: the last bias. -/
theorem blk19 : iblk m c 19 t (ix2 0 0) = (args m c).tb3 := by
  show _ = m ((c : Thread nD τ).loc main_arg19) (ix1 0)
  blk_ext! [iblk, V, index_whole t]

end Cert.KernelIdeal.Value

end
-- ==== Proof.Prepared.lean ====
/- The weights that the first point prepares and leaves in scratch for both points: the decoders' first layer with
   the encoding's scale and offset moved into it, the second decoder weights two tables to a block-diagonal matrix,
   and the first top weights with their rows in the order of the features' buffer. -/
module

public import proofs.«01_k».proof.Proof.Stores
public import proofs.«01_k».proof.Proof.Blocks

@[expose] public section

set_option maxRecDepth 16384

noncomputable section

namespace Cert.KernelIdeal.Value

open Cert.KernelIdeal Cert.KernelIdeal.Gen Cert.Dlrm Idealize.ShloMosaic Idealize.ShloMosaic.TcCoe

/-- An entry of the block-diagonal matrix of tables `2 p` and `2 p + 1`. -/
def diag (w : Fin 26 → Fin 256 → Fin 64 → EReal) (p : Fin 13) (k : Fin 512) (o : Fin 128) : EReal :=
  if hk : k.val < 256 then (if ho : o.val < 64 then w ⟨2 * p.val, by omega⟩ ⟨k.val, hk⟩ ⟨o.val, ho⟩ else 0)
  else (if ho : o.val < 64 then 0 else w ⟨2 * p.val + 1, by omega⟩ ⟨k.val - 256, by omega⟩ ⟨o.val - 64, by omega⟩)

/-- What the four prepared arrays hold, for the arguments `A`. -/
structure Prepared (A : Args) (s1 : Vec Ideal S26x128x256 .f32) (s2 : Vec Ideal S26x256 .f32) (s3 : Vec Ideal S13x512x128 .f32)
    (s4 : Vec Ideal S1792x512 .f32) : Prop where
  w1 : ∀ p k j, s1 (ix3 p k j) = A.dw1 p k j * ((2 / 999999 : ℝ) : EReal)
  b1 : ∀ p j, s2 (ix2 p j) = A.db1 p j - ∑ k, A.dw1 p k j
  w2 : ∀ p k o, s3 (ix3 p k o) = diag A.dw2 p k o
  t1 : ∀ (k : Fin 1664) j, s4 (ix2 ⟨k.val, by omega⟩ j) = A.tw1 ⟨64 + k.val, by omega⟩ j
  t2 : ∀ (k : Fin 64) j, s4 (ix2 ⟨1664 + k.val, by omega⟩ j) = A.tw1 ⟨k.val, by omega⟩ j
  t3 : ∀ (k : Fin 64) j, s4 (ix2 ⟨1728 + k.val, by omega⟩ j) = 0

/-- The stores that fill the block-diagonal matrices of the first `n` pairs, last made first: two blocks for each
    pair, over zeros. -/
def stores (W : Vec Ideal S26x256x64 .f32) : (n : ℕ) → n ≤ 13 → List (View.Piece (Elt Ideal) S13x512x128 .f32)
  | 0, _ => [⟨Rect.unit ![0, 0, 0] ![13, 512, 128] (by decide), shapeCast S13x512x128 (broadcast S13x512x128 (FloatOps.ofBits (F := Ideal) .f32 0#32)) shapeCasts_S13x512x128_S13x512x128⟩]
  | p + 1, h =>
    ⟨Rect.unit ![p, 256, 64] ![1, 256, 64] (fun a => by fin_cases a <;> simp <;> omega),
      shapeCast S1x256x64 (shapeCast S256x64 (View.ld W (Rect.unit ![2 * p + 1, 0, 0] ![1, 256, 64] (fun a => by fin_cases a <;> simp <;> omega))) shapeCasts_S1x256x64_S256x64) shapeCasts_S256x64_S1x256x64⟩
    :: ⟨Rect.unit ![p, 0, 0] ![1, 256, 64] (fun a => by fin_cases a <;> simp <;> omega),
      shapeCast S1x256x64 (shapeCast S256x64 (View.ld W (Rect.unit ![2 * p, 0, 0] ![1, 256, 64] (fun a => by fin_cases a <;> simp <;> omega))) shapeCasts_S1x256x64_S256x64) shapeCasts_S256x64_S1x256x64⟩
    :: stores W p (by omega)

/-- A table's matrix as a store writes it. -/
theorem table_matrix (W : Vec Ideal S26x256x64 .f32) (p : ℕ) (hp : p < 26) (h) (k : Fin 256) (o : Fin 64) :
    shapeCast S1x256x64 (shapeCast S256x64 (View.ld W (Rect.unit ![p, 0, 0] ![1, 256, 64] h)) shapeCasts_S1x256x64_S256x64) shapeCasts_S256x64_S1x256x64 (ix3 0 k o)
      = W (ix3 ⟨p, hp⟩ k o) := by
  pointwise

/-- An index of the matrices in the block stored at `p`, `a`, `b`, as the block's own index there. -/
theorem block_index (p a b : ℕ) (h) (q : Fin 13) (k : Fin 512) (o : Fin 128) (x : Fin 256) (y : Fin 64) (hq : q.val = p) (hk : k.val = a + x.val) (ho : o.val = b + y.val) :
    (ix3 q k o : S13x512x128.Idx) = (Rect.unit (s := S13x512x128) ![p, a, b] ![1, 256, 64] h).emb (ix3 0 x y) :=
  funext fun i => Fin.ext ((by fin_cases i <;> simp <;> omega : _ = _).trans (Rect.idx_unit_val _ _ h (ix3 0 x y) i).symm)

/-- An index in another pair's rows, or in another half, is not in that block. -/
theorem not_in_block (p a b : ℕ) (h) (q : Fin 13) (k : Fin 512) (o : Fin 128)
    (hn : q.val ≠ p ∨ k.val < a ∨ a + 256 ≤ k.val ∨ o.val < b ∨ b + 64 ≤ o.val) :
    (ix3 q k o : S13x512x128.Idx) ∉ (Rect.unit (s := S13x512x128) ![p, a, b] ![1, 256, 64] h).set := by
  rw [Rect.mem_set_unit]
  intro hm
  have h0 := hm 0
  have h1 := hm 1
  have h2 := hm 2
  simp at h0 h1 h2
  omega

/-- Where a block was stored last, its entry is read. -/
theorem block_at (p a b : ℕ) (h) (w : (Rect.unit (s := S13x512x128) ![p, a, b] ![1, 256, 64] h).shape.Idx → EReal)
    (L : List (View.Piece (Elt Ideal) S13x512x128 .f32)) (q : Fin 13) (k : Fin 512) (o : Fin 128) (x : Fin 256) (y : Fin 64)
    (hq : q.val = p) (hk : k.val = a + x.val) (ho : o.val = b + y.val) :
    View.canon (Val := Elt Ideal) (⟨Rect.unit ![p, a, b] ![1, 256, 64] h, w⟩ :: L) (ix3 q k o) = w (ix3 0 x y) := by
  rw [block_index p a b h q k o x y hq hk ho]
  exact View.canon_cons_emb (Val := Elt Ideal) (e := .f32) _ w L _

/-- Elsewhere, what the earlier stores left. -/
theorem block_over (p a b : ℕ) (h) (w : (Rect.unit (s := S13x512x128) ![p, a, b] ![1, 256, 64] h).shape.Idx → EReal)
    (L : List (View.Piece (Elt Ideal) S13x512x128 .f32)) (q : Fin 13) (k : Fin 512) (o : Fin 128)
    (hn : q.val ≠ p ∨ k.val < a ∨ a + 256 ≤ k.val ∨ o.val < b ∨ b + 64 ≤ o.val) :
    View.canon (Val := Elt Ideal) (⟨Rect.unit ![p, a, b] ![1, 256, 64] h, w⟩ :: L) (ix3 q k o) = View.canon L (ix3 q k o) :=
  View.canon_cons_of_not_mem (Val := Elt Ideal) (e := .f32) ⟨_, w⟩ L (not_in_block p a b h q k o hn)

/-- What those stores leave. -/
theorem stores_apply (W : Vec Ideal S26x256x64 .f32) : ∀ (n : ℕ) (hn : n ≤ 13) (p : Fin 13) (k : Fin 512) (o : Fin 128),
    View.canon (stores W n hn) (ix3 p k o) = if p.val < n then diag (fun t k o => W (ix3 t k o)) p k o else 0
  | 0, _, p, k, o => by
    rw [stores, View.canon_cons_unit_lit _ _ _ (by decide)]
    pointwise
    simp
  | n + 1, hn, p, k, o => by
    rw [stores]
    by_cases h1 : p.val = n ∧ 256 ≤ k.val ∧ 64 ≤ o.val
    · obtain ⟨hp, hk, ho⟩ := h1
      rw [block_at n 256 64 _ _ _ p k o ⟨k.val - 256, by omega⟩ ⟨o.val - 64, by omega⟩ hp (by simp; omega) (by simp; omega),
        table_matrix _ _ (by omega), if_pos (by omega), diag, dif_neg (by omega), dif_neg (by omega)]
      simp only [hp]
    · rw [block_over n 256 64 _ _ _ p k o (by omega)]
      by_cases h2 : p.val = n ∧ k.val < 256 ∧ o.val < 64
      · obtain ⟨hp, hk, ho⟩ := h2
        rw [block_at n 0 0 _ _ _ p k o ⟨k.val, hk⟩ ⟨o.val, ho⟩ hp (by simp) (by simp),
          table_matrix _ _ (by omega), if_pos (by omega), diag, dif_pos (by omega), dif_pos (by omega)]
        simp only [hp]
      · rw [block_over n 0 0 _ _ _ p k o (by omega), stores_apply W n (by omega) p k o]
        by_cases hp : p.val = n
        · rw [if_neg (by omega), if_pos (by omega), diag]
          split_ifs <;> first | rfl | omega
        · simp only [show (p.val < n + 1) ↔ (p.val < n) from ⟨fun _ => by omega, fun _ => by omega⟩]

variable (m : (ℓ : Loc nD τ sig) → Buf (Elt Ideal) ℓ)

/-- The scale is the rational that it is named for. -/
theorem scale : Named.named (F := Ideal) κ "scale" (φ := .f32) 0x360637C6#32 = ((2 / 999999 : ℝ) : EReal) :=
  IdealRules.named_const.ideal_named_scalar _ _ _ _ rfl

/-- Where rows from `a` on were stored last, their entry is read. -/
theorem rows_at (a n : ℕ) (h) (w : (Rect.unit (s := S1792x512) ![a, 0] ![n, 512] h).shape.Idx → EReal)
    (L : List (View.Piece (Elt Ideal) S1792x512 .f32)) (k : Fin 1792) (j : Fin 512) (x : Fin n) (hk : k.val = a + x.val) :
    View.canon (Val := Elt Ideal) (⟨Rect.unit ![a, 0] ![n, 512] h, w⟩ :: L) (ix2 k j) = w (ix2 x j) := by
  rw [show (ix2 k j : S1792x512.Idx) = (Rect.unit (s := S1792x512) ![a, 0] ![n, 512] h).emb (ix2 x j) from
    funext fun i => Fin.ext ((by fin_cases i <;> simp <;> omega : _ = _).trans (Rect.idx_unit_val _ _ h (ix2 x j) i).symm)]
  exact View.canon_cons_emb (Val := Elt Ideal) (e := .f32) _ w L _

/-- Elsewhere, what the earlier stores left. -/
theorem rows_over (a n : ℕ) (h) (w : (Rect.unit (s := S1792x512) ![a, 0] ![n, 512] h).shape.Idx → EReal)
    (L : List (View.Piece (Elt Ideal) S1792x512 .f32)) (k : Fin 1792) (j : Fin 512) (hn : k.val < a) :
    View.canon (Val := Elt Ideal) (⟨Rect.unit ![a, 0] ![n, 512] h, w⟩ :: L) (ix2 k j) = View.canon L (ix2 k j) :=
  View.canon_cons_of_not_mem (Val := Elt Ideal) (e := .f32) ⟨_, w⟩ L fun hm => by
    rw [Rect.mem_set_unit] at hm
    have h0 := hm 0
    simp at h0
    omega

/-- The stores that fill the reordered top weights. -/
def top_stores (W : Vec Ideal S1728x512 .f32) : List (View.Piece (Elt Ideal) S1792x512 .f32) :=
  [⟨Rect.unit ![1728, 0] ![64, 512] inb_S1792x512_S64x512_1728_0, k0_pay38 (F := Ideal)⟩,
    ⟨Rect.unit ![1664, 0] ![64, 512] inb_S1792x512_S64x512_1664_0, k0_pay37 (F := Ideal) (View.ld W (Rect.unit ![0, 0] ![64, 512] inb_S1728x512_S64x512_0_0))⟩,
    ⟨Rect.unit ![0, 0] ![1664, 512] (by decide), k0_pay36 (F := Ideal) (View.ld W (Rect.unit ![64, 0] ![1664, 512] (by decide)))⟩]

/-- The prepared arrays in terms of the point's blocks. -/
theorem prepared_terms (c : Dev nD) (t : Fin cfg0.N) :
    Prepared (args m c)
      (k0_pay2 (F := Ideal) (Named.named κ "scale" (φ := .f32) 0x360637C6#32) (iblk m c 4 t)) (k0_pay3 (F := Ideal) (iblk m c 5 t) (iblk m c 4 t))
      (View.canon (stores (iblk m c 6 t) 13 (le_refl 13))) (View.canon (top_stores (iblk m c 14 t))) where
  w1 p k j := by
    pointwise [k0_pay2]
    rw [scale]
    exact congrArg (· * _) (blk4 m c t p k j)
  b1 p j := by
    pointwise [k0_pay3]
    exact congrArg₂ (· - ·) (blk5 m c t p j) (Finset.sum_congr rfl fun k _ => blk4 m c t p k j)
  w2 p k o := by
    rw [stores_apply, if_pos p.isLt]
    simp only [blk6]
  t1 k j := by
    rw [top_stores, rows_over _ _ _ _ _ _ _ (by simp; omega), rows_over _ _ _ _ _ _ _ (by simp), rows_at 0 1664 _ _ _ _ _ k (by simp)]
    pointwise [k0_pay36]
    exact blk14 m c t _ _
  t2 k j := by
    rw [top_stores, rows_over _ _ _ _ _ _ _ (by simp; omega), rows_at 1664 64 _ _ _ _ _ k (by simp)]
    pointwise [k0_pay37]
    exact blk14 m c t _ _
  t3 k j := by
    rw [top_stores, rows_at 1728 64 _ _ _ _ _ k (by simp)]
    pointwise [k0_pay38]

end Cert.KernelIdeal.Value

end
-- ==== Proof.Features.lean ====
/- The features' buffer at a point: each pair's block holds the embeddings of two tables on the block's rows, and the
   block behind them the bottom layers' output. -/
module

public import proofs.«01_k».proof.Proof.Block
public import proofs.«01_k».proof.Proof.Algebra
public import proofs.«01_k».proof.Proof.Prepared

@[expose] public section

set_option maxRecDepth 16384

noncomputable section

namespace Cert.KernelIdeal.Value

open Cert.KernelIdeal Cert.KernelIdeal.Gen Cert.Dlrm Idealize.ShloMosaic Idealize.ShloMosaic.TcCoe

/-- A row of an array, loaded. -/
theorem ld_row {N n : ℕ} {e : EltTy} (X : Vec Ideal ⟨2, ![N, n]⟩ e) (p : ℕ) (hp : p < N) (h) (k : Fin n) :
    View.ld (Val := Elt Ideal) X (Rect.unit (s := ⟨2, ![N, n]⟩) ![p, 0] ![1, n] h) (ix2 0 k) = X (ix2 ⟨p, hp⟩ k) :=
  View.ld_unit_apply_of _ _ _ _ _ _ fun a => by fin_cases a <;> simp

/-- A matrix of an array of matrices, loaded. -/
theorem ld_matrix {N n l : ℕ} {e : EltTy} (X : Vec Ideal ⟨3, ![N, n, l]⟩ e) (p : ℕ) (hp : p < N) (h) (k : Fin n) (j : Fin l) :
    View.ld (Val := Elt Ideal) X (Rect.unit (s := ⟨3, ![N, n, l]⟩) ![p, 0, 0] ![1, n, l] h) (ix3 0 k j) = X (ix3 ⟨p, hp⟩ k j) :=
  View.ld_unit_apply_of _ _ _ _ _ _ fun a => by fin_cases a <;> simp

/-- What the point's blocks of indices, hash parameters and second biases hold, for the arguments `A` and the rows `R`. -/
structure Loaded (A : Args) (R : Fin 2048 → Fin 4096) (x1 : Vec Ideal S26x2048 .i32) (x2 x3 : Vec Ideal S26x128 .i32) (x7 : Vec Ideal S13x128 .f32) : Prop where
  idx : ∀ p r, x1 (ix2 p r) = A.idx p (R r)
  ha : ∀ p k, x2 (ix2 p k) = A.ha p k
  hb : ∀ p k, x3 (ix2 p k) = A.hb p k
  db2 : ∀ (p : Fin 13) (j : Fin 128), x7 (ix2 p j) = A.db2 ⟨2 * p.val + j.val / 64, by omega⟩ ⟨j.val % 64, by omega⟩

variable {A : Args} {R : Fin 2048 → Fin 4096} {x1 : Vec Ideal S26x2048 .i32} {x2 x3 : Vec Ideal S26x128 .i32} {x7 : Vec Ideal S13x128 .f32}
  {s1 : Vec Ideal S26x128x256 .f32} {s2 : Vec Ideal S26x256 .f32} {s3 : Vec Ideal S13x512x128 .f32} {s4 : Vec Ideal S1792x512 .f32}

/-- Hidden units of equal entries are equal. -/
theorem unit_congr {i i' : BitVec 32} {a a' b b' : Fin 128 → BitVec 32} {w w' : Fin 128 → EReal} {c c' : EReal} (hi : i = i')
    (ha : ∀ k, a k = a' k) (hb : ∀ k, b k = b' k) (hw : ∀ k, w k = w' k) (hc : c = c') :
    Block.unit i a b w c = Block.unit i' a' b' w' c' := by
  rw [hi, funext ha, funext hb, funext hw, hc]

/-- A table's hidden unit, from what a pair loads for the table. -/
theorem unit_eq (X : Loaded A R x1 x2 x3 x7) (P : Prepared A s1 s2 s3 s4) (hw : ∀ p k j, ⊥ < A.dw1 p k j ∧ A.dw1 p k j < ⊤)
    (q : ℕ) (hq : q < 26) (h1) (h2) (h3) (h4) (h5) (r : Fin 2048) (j : Fin 256) :
    Block.unit (View.ld (Val := Elt Ideal) x1 (Rect.unit (s := S26x2048) ![q, 0] ![1, 2048] h1) (ix2 0 r))
        (fun k => View.ld (Val := Elt Ideal) x2 (Rect.unit (s := S26x128) ![q, 0] ![1, 128] h2) (ix2 0 k))
        (fun k => View.ld (Val := Elt Ideal) x3 (Rect.unit (s := S26x128) ![q, 0] ![1, 128] h3) (ix2 0 k))
        (fun k => View.ld (Val := Elt Ideal) s1 (Rect.unit (s := S26x128x256) ![q, 0, 0] ![1, 128, 256] h4) (ix3 0 k j))
        (View.ld (Val := Elt Ideal) s2 (Rect.unit (s := S26x256) ![q, 0] ![1, 256] h5) (ix2 0 j))
      = hid A (R r) ⟨q, hq⟩ j := by
  rw [unit_congr ((ld_row x1 q hq h1 r).trans (X.idx _ _)) (fun k => (ld_row x2 q hq h2 k).trans (X.ha _ _))
    (fun k => (ld_row x3 q hq h3 k).trans (X.hb _ _)) (fun k => (ld_matrix s1 q hq h4 k j).trans (P.w1 _ _ _))
    ((ld_row s2 q hq h5 j).trans (P.b1 _ _)), Block.unit, scaled_layer _ (fun k => A.dw1 ⟨q, hq⟩ k j) _ fun k => hw _ k j]
  rfl

/-- The features in the buffer's order: the embeddings, then the bottom vector. -/
def feature (A : Args) (r : Fin 4096) (k : ℕ) : EReal :=
  if h : k < 1664 then emb A r ⟨k / 64, by omega⟩ ⟨k % 64, by omega⟩ else bot A r ⟨k % 64, by omega⟩

/-- The features of the rows `R`, over a block's rows and the buffer's columns. -/
def features (A : Args) (R : Fin 2048 → Fin 4096) (y : S2048x1792.Idx) : EReal := feature A (R (y 0)) (y 1).val

/-- A pair's block holds the features from `128 p` on. -/
theorem pair_eq (X : Loaded A R x1 x2 x3 x7) (P : Prepared A s1 s2 s3 s4) (hw : ∀ p k j, ⊥ < A.dw1 p k j ∧ A.dw1 p k j < ⊤)
    (p : ℕ) (hp : p < 13) {h1 h2 h3 h4 h5 g1 g2 g3 g4 g5 f1 f2} (r : Fin 2048) (o : Fin 128) :
    Block.pair (F := Ideal)
        (View.ld (Val := Elt Ideal) x1 (Rect.unit (s := S26x2048) ![2 * p, 0] ![1, 2048] h1))
        (View.ld (Val := Elt Ideal) x2 (Rect.unit (s := S26x128) ![2 * p, 0] ![1, 128] h2))
        (View.ld (Val := Elt Ideal) x3 (Rect.unit (s := S26x128) ![2 * p, 0] ![1, 128] h3))
        (View.ld (Val := Elt Ideal) s1 (Rect.unit (s := S26x128x256) ![2 * p, 0, 0] ![1, 128, 256] h4))
        (View.ld (Val := Elt Ideal) s2 (Rect.unit (s := S26x256) ![2 * p, 0] ![1, 256] h5))
        (View.ld (Val := Elt Ideal) x1 (Rect.unit (s := S26x2048) ![2 * p + 1, 0] ![1, 2048] g1))
        (View.ld (Val := Elt Ideal) x2 (Rect.unit (s := S26x128) ![2 * p + 1, 0] ![1, 128] g2))
        (View.ld (Val := Elt Ideal) x3 (Rect.unit (s := S26x128) ![2 * p + 1, 0] ![1, 128] g3))
        (View.ld (Val := Elt Ideal) s1 (Rect.unit (s := S26x128x256) ![2 * p + 1, 0, 0] ![1, 128, 256] g4))
        (View.ld (Val := Elt Ideal) s2 (Rect.unit (s := S26x256) ![2 * p + 1, 0] ![1, 256] g5))
        (View.ld (Val := Elt Ideal) s3 (Rect.unit (s := S13x512x128) ![p, 0, 0] ![1, 512, 128] f1))
        (View.ld (Val := Elt Ideal) x7 (Rect.unit (s := S13x128) ![p, 0] ![1, 128] f2)) (ix2 r o)
      = feature A (R r) (128 * p + o.val) := by
  rw [Block.pair_apply]
  simp only [unit_eq X P hw (2 * p) (by omega), unit_eq X P hw (2 * p + 1) (by omega), ld_matrix s3 p hp, ld_row x7 p hp, P.w2, X.db2]
  rw [feature, dif_pos (by omega)]
  by_cases ho : o.val < 64
  · simp [diag, ho, emb, lin, show (128 * p + o.val) / 64 = 2 * p by omega, show (128 * p + o.val) % 64 = o.val by omega,
      show o.val / 64 = 0 by omega, show o.val % 64 = o.val by omega]
  · simp [diag, ho, emb, lin, show (128 * p + o.val) / 64 = 2 * p + 1 by omega, show (128 * p + o.val) % 64 = o.val - 64 by omega,
      show o.val / 64 = 1 by omega, show o.val % 64 = o.val - 64 by omega]

/-- The same for the block's own index, at its place in the buffer. -/
theorem pair_piece (X : Loaded A R x1 x2 x3 x7) (P : Prepared A s1 s2 s3 s4) (hw : ∀ p k j, ⊥ < A.dw1 p k j ∧ A.dw1 p k j < ⊤)
    (p : ℕ) (hp : p < 13) {h1 h2 h3 h4 h5 g1 g2 g3 g4 g5 f1 f2 e1} (x : S2048x128.Idx) :
    Block.pair (F := Ideal)
        (View.ld (Val := Elt Ideal) x1 (Rect.unit (s := S26x2048) ![2 * p, 0] ![1, 2048] h1))
        (View.ld (Val := Elt Ideal) x2 (Rect.unit (s := S26x128) ![2 * p, 0] ![1, 128] h2))
        (View.ld (Val := Elt Ideal) x3 (Rect.unit (s := S26x128) ![2 * p, 0] ![1, 128] h3))
        (View.ld (Val := Elt Ideal) s1 (Rect.unit (s := S26x128x256) ![2 * p, 0, 0] ![1, 128, 256] h4))
        (View.ld (Val := Elt Ideal) s2 (Rect.unit (s := S26x256) ![2 * p, 0] ![1, 256] h5))
        (View.ld (Val := Elt Ideal) x1 (Rect.unit (s := S26x2048) ![2 * p + 1, 0] ![1, 2048] g1))
        (View.ld (Val := Elt Ideal) x2 (Rect.unit (s := S26x128) ![2 * p + 1, 0] ![1, 128] g2))
        (View.ld (Val := Elt Ideal) x3 (Rect.unit (s := S26x128) ![2 * p + 1, 0] ![1, 128] g3))
        (View.ld (Val := Elt Ideal) s1 (Rect.unit (s := S26x128x256) ![2 * p + 1, 0, 0] ![1, 128, 256] g4))
        (View.ld (Val := Elt Ideal) s2 (Rect.unit (s := S26x256) ![2 * p + 1, 0] ![1, 256] g5))
        (View.ld (Val := Elt Ideal) s3 (Rect.unit (s := S13x512x128) ![p, 0, 0] ![1, 512, 128] f1))
        (View.ld (Val := Elt Ideal) x7 (Rect.unit (s := S13x128) ![p, 0] ![1, 128] f2)) x
      = features A R ((Rect.unit (s := S2048x1792) ![0, 128 * p] ![2048, 128] e1).emb x) := by
  obtain ⟨r, o, rfl⟩ : ∃ r o, x = ix2 r o := ⟨x 0, x 1, by funext a; fin_cases a <;> rfl⟩
  rw [pair_eq X P hw p hp r o]
  have e0 : ((Rect.unit (s := S2048x1792) ![0, 128 * p] ![2048, 128] e1).emb (ix2 r o)) 0 = r :=
    Fin.ext ((Rect.idx_unit_val _ _ e1 (ix2 r o) 0).trans (by simp))
  have e2 : (((Rect.unit (s := S2048x1792) ![0, 128 * p] ![2048, 128] e1).emb (ix2 r o)) 1).val = 128 * p + o.val :=
    (Rect.idx_unit_val _ _ e1 (ix2 r o) 1).trans (by simp)
  exact (congrArg₂ (fun a b => feature A (R a) b) e0 e2).symm

variable (m : (ℓ : Loc nD τ sig) → Buf (Elt Ideal) ℓ) (c : Dev nD) (t : Fin cfg0.N)

/-- The windows of a point hold what a pair loads. -/
theorem loaded : Loaded (args m c) (row t) (iblk m c 1 t) (iblk m c 2 t) (iblk m c 3 t) (iblk m c 7 t) where
  idx := blk1 m c t
  ha := blk2 m c t
  hb := blk3 m c t
  db2 := blk7 m c t

/-- The bottom layers' block holds the features from 1664 on. -/
theorem bottom_piece {e1} (x : S2048x64.Idx) :
    k0_pay40 (F := Ideal) (iblk m c 0 t) (iblk m c 8 t) (iblk m c 9 t) (iblk m c 10 t) (iblk m c 11 t) (iblk m c 12 t) (iblk m c 13 t) x
      = features (args m c) (row t) ((Rect.unit (s := S2048x1792) ![0, 1664] ![2048, 64] e1).emb x) := by
  obtain ⟨r, o, rfl⟩ : ∃ r o, x = ix2 r o := ⟨x 0, x 1, by funext a; fin_cases a <;> rfl⟩
  rw [Block.bottom_apply]
  simp only [blk0, blk8, blk9, blk10, blk11, blk12, blk13]
  have e0 : ((Rect.unit (s := S2048x1792) ![0, 1664] ![2048, 64] e1).emb (ix2 r o)) 0 = r :=
    Fin.ext ((Rect.idx_unit_val _ _ e1 (ix2 r o) 0).trans (by simp))
  have e2 : (((Rect.unit (s := S2048x1792) ![0, 1664] ![2048, 64] e1).emb (ix2 r o)) 1).val = 1664 + o.val :=
    (Rect.idx_unit_val _ _ e1 (ix2 r o) 1).trans (by simp)
  refine Eq.trans ?_ (congrArg₂ (fun a b => feature (args m c) (row t a) b) e0 e2).symm
  simp only [feature, show ¬ 1664 + o.val < 1664 by omega, dif_neg, not_false_eq_true, show (1664 + o.val) % 64 = o.val by omega]
  rfl

end Cert.KernelIdeal.Value

end
-- ==== Proof.Buffer.lean ====
/- The features' buffer after a point's stores, and the point's result from it. -/
module

public import proofs.«01_k».proof.Proof.Features

@[expose] public section

set_option maxRecDepth 16384

noncomputable section

namespace Cert.KernelIdeal.Value

open Cert.KernelIdeal Cert.KernelIdeal.Gen Cert.Dlrm Idealize.ShloMosaic Idealize.ShloMosaic.TcCoe

variable {A : Args} {R : Fin 2048 → Fin 4096} {x1 : Vec Ideal S26x2048 .i32} {x2 x3 : Vec Ideal S26x128 .i32} {x7 : Vec Ideal S13x128 .f32}
  {s1 : Vec Ideal S26x128x256 .f32} {s2 : Vec Ideal S26x256 .f32} {s3 : Vec Ideal S13x512x128 .f32} {s4 : Vec Ideal S1792x512 .f32}

/-- The stores of the bottom layers' block `b` and of the first `n` pairs into the features' buffer, last made first. -/
def pairs (x1 : Vec Ideal S26x2048 .i32) (x2 x3 : Vec Ideal S26x128 .i32) (x7 : Vec Ideal S13x128 .f32) (s1 : Vec Ideal S26x128x256 .f32)
    (s2 : Vec Ideal S26x256 .f32) (s3 : Vec Ideal S13x512x128 .f32) (b : FVec Ideal S2048x64 .f32) :
    (n : ℕ) → n ≤ 13 → List (View.Piece (Elt Ideal) S2048x1792 .f32)
  | 0, _ => [⟨Rect.unit ![0, 1664] ![2048, 64] (by decide), b⟩]
  | p + 1, h =>
    ⟨Rect.unit ![0, 128 * p] ![2048, 128] (fun a => by fin_cases a <;> simp <;> omega),
      Block.pair (F := Ideal)
        (View.ld (Val := Elt Ideal) x1 (Rect.unit (s := S26x2048) ![2 * p, 0] ![1, 2048] (fun a => by fin_cases a <;> simp <;> omega)))
        (View.ld (Val := Elt Ideal) x2 (Rect.unit (s := S26x128) ![2 * p, 0] ![1, 128] (fun a => by fin_cases a <;> simp <;> omega)))
        (View.ld (Val := Elt Ideal) x3 (Rect.unit (s := S26x128) ![2 * p, 0] ![1, 128] (fun a => by fin_cases a <;> simp <;> omega)))
        (View.ld (Val := Elt Ideal) s1 (Rect.unit (s := S26x128x256) ![2 * p, 0, 0] ![1, 128, 256] (fun a => by fin_cases a <;> simp <;> omega)))
        (View.ld (Val := Elt Ideal) s2 (Rect.unit (s := S26x256) ![2 * p, 0] ![1, 256] (fun a => by fin_cases a <;> simp <;> omega)))
        (View.ld (Val := Elt Ideal) x1 (Rect.unit (s := S26x2048) ![2 * p + 1, 0] ![1, 2048] (fun a => by fin_cases a <;> simp <;> omega)))
        (View.ld (Val := Elt Ideal) x2 (Rect.unit (s := S26x128) ![2 * p + 1, 0] ![1, 128] (fun a => by fin_cases a <;> simp <;> omega)))
        (View.ld (Val := Elt Ideal) x3 (Rect.unit (s := S26x128) ![2 * p + 1, 0] ![1, 128] (fun a => by fin_cases a <;> simp <;> omega)))
        (View.ld (Val := Elt Ideal) s1 (Rect.unit (s := S26x128x256) ![2 * p + 1, 0, 0] ![1, 128, 256] (fun a => by fin_cases a <;> simp <;> omega)))
        (View.ld (Val := Elt Ideal) s2 (Rect.unit (s := S26x256) ![2 * p + 1, 0] ![1, 256] (fun a => by fin_cases a <;> simp <;> omega)))
        (View.ld (Val := Elt Ideal) s3 (Rect.unit (s := S13x512x128) ![p, 0, 0] ![1, 512, 128] (fun a => by fin_cases a <;> simp <;> omega)))
        (View.ld (Val := Elt Ideal) x7 (Rect.unit (s := S13x128) ![p, 0] ![1, 128] (fun a => by fin_cases a <;> simp <;> omega)))⟩
    :: pairs x1 x2 x3 x7 s1 s2 s3 b p (by omega)

/-- Each of those stores writes a block of the features. -/
theorem pairs_pieces (X : Loaded A R x1 x2 x3 x7) (P : Prepared A s1 s2 s3 s4) (hw : ∀ p k j, ⊥ < A.dw1 p k j ∧ A.dw1 p k j < ⊤)
    (b : FVec Ideal S2048x64 .f32) (hb : ∀ (e1) (x : S2048x64.Idx), b x = features A R ((Rect.unit (s := S2048x1792) ![0, 1664] ![2048, 64] e1).emb x)) :
    ∀ n hn, View.PiecesOf (features A R) (pairs x1 x2 x3 x7 s1 s2 s3 b n hn)
  | 0, _ => ⟨hb (by decide), trivial⟩
  | p + 1, h => ⟨pair_piece X P hw p (by omega) (e1 := fun a => by fin_cases a <;> simp <;> omega), pairs_pieces X P hw b hb p (by omega)⟩

/-- They cover the columns of the bottom layers and of the pairs that are stored. -/
theorem pairs_cover (b : FVec Ideal S2048x64 .f32) (y : S2048x1792.Idx) :
    ∀ n hn, ((y 1).val < 128 * n ∨ 1664 ≤ (y 1).val ∧ (y 1).val < 1728) → ∃ q ∈ pairs x1 x2 x3 x7 s1 s2 s3 b n hn, y ∈ q.1.set
  | 0, _, h => ⟨_, List.mem_cons_self, by
      have h0 : (y 0).val < 2048 := (y 0).isLt
      rw [Rect.mem_set_unit]
      intro a
      fin_cases a <;> simp <;> omega⟩
  | p + 1, hn, h => by
    by_cases hp : 128 * p ≤ (y 1).val ∧ (y 1).val < 128 * p + 128
    · refine ⟨_, List.mem_cons_self, ?_⟩
      have h0 : (y 0).val < 2048 := (y 0).isLt
      rw [Rect.mem_set_unit]
      intro a
      fin_cases a <;> simp <;> omega
    · obtain ⟨q, hq, hy⟩ := pairs_cover b y p (by omega) (by omega)
      exact ⟨q, List.mem_cons_of_mem _ hq, hy⟩

variable (m : (ℓ : Loc nD τ sig) → Buf (Elt Ideal) ℓ) (c : Dev nD) (t : Fin cfg0.N)

/-- The point's result from a buffer that holds the features in its first 1728 columns. -/
theorem result_of (P : Prepared (args m c) s1 s2 s3 s4) (z : Vec Ideal S2048x1792 .f32)
    (hz : ∀ y : S2048x1792.Idx, (y 1).val < 1728 → z y = features (args m c) (row t) y) (r : Fin 2048) :
    k0_pay1 (F := Ideal) (k0_pay129 z s4 (iblk m c 15 t) (iblk m c 16 t) (iblk m c 17 t)) (iblk m c 18 t) (iblk m c 19 t) (ix2 r 0)
      = out (args m c) (row t r) := by
  rw [Block.out_apply]
  simp only [Block.top_apply, blk15, blk16, blk17, blk18, blk19]
  have h : ∀ j, ∑ k, z (ix2 r k) * s4 (ix2 k j) = ∑ k, feat (args m c) (row t r) k * (args m c).tw1 k j := fun j =>
    sum_reordered (args m c) (row t r) (fun k => (args m c).tw1 k j) (fun k => z (ix2 r k)) (fun k => s4 (ix2 k j))
      (fun k => (hz _ (by simp; omega)).trans (dif_pos k.isLt))
      (fun k => (hz _ (by simp; omega)).trans ((dif_neg (by simp)).trans (congrArg _ (Fin.ext (by simp; omega)))))
      (fun k => P.t1 k j) (fun k => P.t2 k j) (fun k => P.t3 k j)
  simp only [h]
  rfl

end Cert.KernelIdeal.Value

end
-- ==== Proof.Point.lean ====
/- What the two points of the grid leave: the prepared weights after the first, and the block of results after each. -/
module

public import proofs.«01_k».proof.Proof.Buffer
public import Idealize.ShloMosaic.Lib.Pipeline.ReadBack

@[expose] public section

set_option maxRecDepth 16384
set_option maxHeartbeats 2000000

noncomputable section

namespace Cert.KernelIdeal.Value

open Cert.KernelIdeal Cert.KernelIdeal.Gen Cert.Dlrm Idealize.ShloMosaic Idealize.ShloMosaic.TcCoe

variable (m : (ℓ : Loc nD τ sig) → Buf (Elt Ideal) ℓ) (c : Dev nD) (t : Fin cfg0.N)

/-- The first point's result. -/
theorem result_first (hw : ∀ p k j, ⊥ < (args m c).dw1 p k j ∧ (args m c).dw1 p k j < ⊤) (h0 : t.val % 2 = 0) (r : Fin 2048) :
    (outsAt0 m c t.val t.isLt).1 (ix2 r 0) = out (args m c) (row t r) := by
  rw [outsAt0_A m c t h0]
  frame_open
  simp only [↓ readCov_eq_ld]
  frame_out
  refine result_of m c t (prepared_terms m c t) _ (fun y hy => ?_) r
  exact View.canon_append_of_piecesOf (features (args m c) (row t)) [_]
    (pairs (iblk m c 1 t) (iblk m c 2 t) (iblk m c 3 t) (iblk m c 7 t) _ _ _ _ 13 (le_refl 13))
    (pairs_pieces (loaded m c t) (prepared_terms m c t) hw _ (fun e x => bottom_piece m c t x) 13 (le_refl 13)) y
    (pairs_cover _ y 13 (le_refl 13) (by omega))

/-- The weights that the first point leaves prepared. -/
theorem prepared_first (h0 : t.val % 2 = 0) :
    Prepared (args m c) (outsAt0 m c t.val t.isLt).2.2.1 (outsAt0 m c t.val t.isLt).2.2.2.1 (outsAt0 m c t.val t.isLt).2.2.2.2.1
      (outsAt0 m c t.val t.isLt).2.2.2.2.2 := by
  have e1 : (outsAt0 m c t.val t.isLt).2.2.1 = k0_pay2 (F := Ideal) (Named.named κ "scale" (φ := .f32) 0x360637C6#32) (iblk m c 4 t) := by
    funext y
    rw [outsAt0_A m c t h0]
    frame_out
    rfl
  have e2 : (outsAt0 m c t.val t.isLt).2.2.2.1 = k0_pay3 (F := Ideal) (iblk m c 5 t) (iblk m c 4 t) := by
    funext y
    rw [outsAt0_A m c t h0]
    frame_out
    rfl
  have e3 : (outsAt0 m c t.val t.isLt).2.2.2.2.1 = View.canon (stores (iblk m c 6 t) 13 (le_refl 13)) := by
    funext y
    rw [outsAt0_A m c t h0]
    frame_out
    rfl
  have e4 : (outsAt0 m c t.val t.isLt).2.2.2.2.2 = View.canon (top_stores (iblk m c 14 t)) := by
    funext y
    rw [outsAt0_A m c t h0]
    frame_out
    rfl
  rw [e1, e2, e3, e4]
  exact prepared_terms m c t

/-- The second point's result, from the weights that the first left prepared. -/
theorem result_second (hw : ∀ p k j, ⊥ < (args m c).dw1 p k j ∧ (args m c).dw1 p k j < ⊤) (h0 : ¬ t.val % 2 = 0) (r : Fin 2048) :
    (outsAt0 m c t.val t.isLt).1 (ix2 r 0) = out (args m c) (row t r) := by
  have P := prepared_first m c ⟨t.val - 1, by have := t.isLt; omega⟩ (by show (t.val - 1) % 2 = 0; omega)
  rw [outsAt0_B m c t h0]
  frame_open
  frame_out
  simp only [read_unread_whole]
  refine result_of m c t P _ (fun y hy => ?_) r
  exact read_writes_of_pieces _ _ (features (args m c) (row t))
    (pairs (iblk m c 1 t) (iblk m c 2 t) (iblk m c 3 t) (iblk m c 7 t) _ _ _ _ 13 (le_refl 13))
    (pairs_pieces (loaded m c t) P hw _ (fun e x => bottom_piece m c t x) 13 (le_refl 13)) y
    (pairs_cover _ y 13 (le_refl 13) (by omega))

/-- Either point's result. -/
theorem result_point (hw : ∀ p k j, ⊥ < (args m c).dw1 p k j ∧ (args m c).dw1 p k j < ⊤) (r : Fin 2048) :
    (outsAt0 m c t.val t.isLt).1 (ix2 r 0) = out (args m c) (row t r) := by
  by_cases h0 : t.val % 2 = 0
  · exact result_first m c t hw h0 r
  · exact result_second m c t hw h0 r

end Cert.KernelIdeal.Value

end
-- ==== Proof.Result.lean ====
/- The kernel's array after the run, row by row: the specification's prediction, where the decoders' first weights
   are finite. -/
module

public import proofs.«01_k».proof.Defs
public import proofs.«01_k».proof.Proof.Point

@[expose] public section

set_option maxRecDepth 16384

noncomputable section

namespace Cert.KernelIdeal.Value

open Cert.KernelIdeal Cert.KernelIdeal.Gen Cert.Dlrm Idealize.ShloMosaic Idealize.ShloMosaic.TcCoe

variable (m : (ℓ : Loc nD τ sig) → Buf (Elt Ideal) ℓ) (c : Dev nD)

/-- The word of negative infinity. -/
theorem ofBits_bot : Ideal.ofBits .f32 0xFF800000#32 = ⊥ := by
  simp [Ideal.ofBits, Ideal.ieee]

/-- The word of positive infinity. -/
theorem ofBits_top : Ideal.ofBits .f32 0x7F800000#32 = ⊤ := by
  simp [Ideal.ofBits, Ideal.ieee]

/-- Two comparisons whose conjunction is one both hold. -/
theorem both_of_and (p q : Prop) [Decidable p] [Decidable q]
    (h : BitVec.ofBool (decide p) &&& BitVec.ofBool (decide q) = 1#1) : p ∧ q := by
  by_cases hp : p <;> by_cases hq : q <;> simp_all

/-- The precondition says that the decoders' first weights are finite. -/
theorem finite_of_pre [hPre : Cert.Pre_finite_w1.Facts] (h : Cert.Pre_KernelIdeal_finite_w1 m) (p : Fin 26) (k : Fin 128) (j : Fin 256) :
    ⊥ < (args m c).dw1 p k j ∧ (args m c).dw1 p k j < ⊤ := by
  have e := congrFun (h c) (ix3 p k j)
  rw [← ofBits_bot, ← ofBits_top]
  exact both_of_and _ _ e

/-- The kernel's result at row `r`. -/
theorem array_apply (hw : ∀ p k j, ⊥ < (args m c).dw1 p k j ∧ (args m c).dw1 p k j < ⊤) (r : Fin 4096) :
    G20 m c (ix2 r 0) = out (args m c) r := by
  have hN : cfg0.N = 2 := rfl
  have hp : pt20Of (ix2 r 0) = r.val / 2048 := by
    show 1 * (r.val / 2048 - 0) + 1 * (0 / 1 - 0) = _
    omega
  have ht : pt20Of (ix2 r 0) < cfg0.N := by rw [hp, hN]; omega
  rw [G20, dif_pos ht, ← outsAt0_sweep m c _ ht,
    show loc20Of (ix2 r 0) = ix2 ⟨r.val % 2048, by omega⟩ 0 from funext fun a => by fin_cases a <;> rfl,
    result_point m c ⟨_, ht⟩ hw]
  refine congrArg _ (Fin.ext ?_)
  show pt20Of (ix2 r 0) * 2048 + r.val % 2048 = r.val
  rw [hp]
  omega

end Cert.KernelIdeal.Value

end
-- ==== Proof.Reference.lean ====
/- The reference's result, read at a row: the specification's prediction for that row. -/
module

public import proofs.«01_k».proof.Proof.Args
public import proofs.«01_k».proof.Proof.Words
public import proofs.«01_k».proof.Proof.Algebra
public import proofs.«01_k».proof.Proof.Gen.ReferenceIdeal.Run

@[expose] public section

set_option maxRecDepth 16384

noncomputable section

namespace Cert.ReferenceIdeal.Value

open Cert.ReferenceIdeal Cert.Dlrm Idealize.ShloMosaic Idealize.ShloMosaic.TcCoe

/-- The arguments that memory holds at launch. -/
def args (m : (ℓ : Loc nD τ sig) → Buf (Elt Ideal) ℓ) (c : Dev nD) : Args :=
  Args.of (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10)) (m ((c : Thread nD τ).loc main_arg11))
    (m ((c : Thread nD τ).loc main_arg12)) (m ((c : Thread nD τ).loc main_arg13)) (m ((c : Thread nD τ).loc main_arg14)) (m ((c : Thread nD τ).loc main_arg15))
    (m ((c : Thread nD τ).loc main_arg16)) (m ((c : Thread nD τ).loc main_arg17)) (m ((c : Thread nD τ).loc main_arg18)) (m ((c : Thread nD τ).loc main_arg19))

set_option maxHeartbeats 4000000 in
/-- The reference's result at row `r`. -/
theorem res_apply (m : (ℓ : Loc nD τ sig) → Buf (Elt Ideal) ℓ) (c : Dev nD) (r : Fin 4096) :
    res_main_v65 m c (ix2 r 0) = out (args m c) r := by
  simp only [out, feat_sum, fin, top2, bot, emb, hid, layer, lin, enc, Ideal.logistic, args, Args.of]
  pointwise [res_main_v65]
  simp only [id, divisor, corrected', rem_eq, uitofp_hash, ofBits_divisor, ofBits_two]

end Cert.ReferenceIdeal.Value

end
-- ==== Proof.lean ====
/- The proof of the certificate's claim: the frames of the kernel, of its ideal program and of the reference, the one
   rewrite of the ideal program, and the equation of the two results. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Result
public import proofs.«01_k».proof.Proof.Reference
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The precondition's broadcast fits. -/
theorem pre_facts : Cert.Pre_finite_w1.Facts where
  bcast_S_S26x128x256 := by decide

/-- The reference terminates without fault, keeps its arguments and leaves every semaphore at zero. -/
theorem reference_frame : quiescent_ReferenceIdeal (hReferenceIdeal := Cert.ReferenceIdeal.Gen.facts) := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- Where the arguments agree and the decoders' first weights are finite, the reference's result is the kernel's array. -/
theorem results_equal (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hargs : Cert.ReferenceIdeal.Value.args m' c = Cert.KernelIdeal.Value.args m c)
    (hw : ∀ p k j, ⊥ < (Cert.KernelIdeal.Value.args m c).dw1 p k j ∧ (Cert.KernelIdeal.Value.args m c).dw1 p k j < ⊤) :
    Cert.ReferenceIdeal.Value.res_main_v65 m' c = Cert.KernelIdeal.Value.G20 m c := by
  funext i
  obtain ⟨r, rfl⟩ : ∃ r : Fin 4096, i = ix2 r 0 :=
    ⟨i 0, funext fun a => by fin_cases a; exacts [rfl, Subsingleton.elim (α := Fin 1) _ _]⟩
  exact (Cert.ReferenceIdeal.Value.res_apply m' c r).trans
    ((congrArg (fun A => Cert.Dlrm.out A r) hargs).trans (Cert.KernelIdeal.Value.array_apply m c hw r).symm)

/-- The kernel's ideal program and the reference compute the same function. -/
theorem same_function : algebraic_KernelIdeal_ReferenceIdeal_pre_finite_w1 (hKernelIdeal := Cert.KernelIdeal.Gen.facts)
    (hReferenceIdeal := Cert.ReferenceIdeal.Gen.facts) (hPre_finite_w1 := pre_facts) := by
  intro m ρ m' ρ' hpre hagree
  refine ⟨_, Cert.KernelIdeal.Value.run (F := Ideal) m ρ, ?_⟩
  refine (θ_run Cert.ReferenceIdeal.defs _ _).mono (fun _ h c => ⟨(h c).1.trans ?_, (h c).2⟩)
    (Cert.ReferenceIdeal.Value.run (F := Ideal) m' ρ')
  refine results_equal m m' c ?_ (Cert.KernelIdeal.Value.finite_of_pre (hPre := pre_facts) m c hpre)
  obtain ⟨h0, h1, h2, h3, h4, h5, h6, h7, h8, h9, h10, h11, h12, h13, h14, h15, h16, h17, h18, h19⟩ := hagree c
  unfold Cert.ReferenceIdeal.Value.args Cert.KernelIdeal.Value.args
  rw [h0, h1, h2, h3, h4, h5, h6, h7, h8, h9, h10, h11, h12, h13, h14, h15, h16, h17, h18, h19]

/-- Everything that the certificate claims. -/
theorem claim : Cert.Claim :=
  ⟨Cert.Kernel.Gen.facts, Cert.KernelIdeal.Gen.facts, Cert.ReferenceIdeal.Gen.facts, pre_facts,
    fun m ρ _ => Cert.Kernel.Gen.frame m ρ,
    fun m ρ _ => Cert.KernelIdeal.Gen.frame m ρ,
    fun m ρ _ => Cert.KernelIdeal.Gen.frame m ρ,
    reference_frame,
    fun m ρ _ => reference_frame m ρ trivial,
    IdealRules.named_const.statement Cert.KernelIdeal.κ "scale" .f32 0x360637C6#32 ((2 / 999999 : ℝ) : EReal) rfl,
    same_function⟩

end Cert.Proof

end
